-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)) (v2 : (c : Dev Cert.Kernel5Ideal.nD) → Buf (Elt Ideal) ((c.tc : Thread Cert.Kernel5Ideal.nD Cert.Kernel5Ideal.τ).loc Cert.Kernel5Ideal.main_v19_2)) (v3 : (c : Dev Cert.Kernel5Ideal.nD) → Buf (Elt Ideal) ((c.tc : Thread Cert.Kernel5Ideal.nD Cert.Kernel5Ideal.τ).loc Cert.Kernel5Ideal.main_v19_3)) (v4 : (c : Dev Cert.Kernel5Ideal.nD) → Buf (Elt Ideal) ((c.tc : Thread Cert.Kernel5Ideal.nD Cert.Kernel5Ideal.τ).loc Cert.Kernel5Ideal.main_v19_4)) (v5 : (c : Dev Cert.Kernel5Ideal.nD) → Buf (Elt Ideal) ((c.tc : Thread Cert.Kernel5Ideal.nD Cert.Kernel5Ideal.τ).loc Cert.Kernel5Ideal.main_v19_5)) (v6 : (c : Dev Cert.Kernel5Ideal.nD) → Buf (Elt Ideal) ((c.tc : Thread Cert.Kernel5Ideal.nD Cert.Kernel5Ideal.τ).loc Cert.Kernel5Ideal.main_v19_6)) (v7 : (c : Dev Cert.Kernel5Ideal.nD) → Buf (Elt Ideal) ((c.tc : Thread Cert.Kernel5Ideal.nD Cert.Kernel5Ideal.τ).loc Cert.Kernel5Ideal.main_v19_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_v19_2) = v2 c
          ∧ r.2.mem ((c.tc : Thread Cert.Kernel5Ideal.nD Cert.Kernel5Ideal.τ).loc Cert.Kernel5Ideal.main_v19_3) = v3 c
          ∧ r.2.mem ((c.tc : Thread Cert.Kernel5Ideal.nD Cert.Kernel5Ideal.τ).loc Cert.Kernel5Ideal.main_v19_4) = v4 c
          ∧ r.2.mem ((c.tc : Thread Cert.Kernel5Ideal.nD Cert.Kernel5Ideal.τ).loc Cert.Kernel5Ideal.main_v19_5) = v5 c
          ∧ r.2.mem ((c.tc : Thread Cert.Kernel5Ideal.nD Cert.Kernel5Ideal.τ).loc Cert.Kernel5Ideal.main_v19_6) = v6 c
          ∧ r.2.mem ((c.tc : Thread Cert.Kernel5Ideal.nD Cert.Kernel5Ideal.τ).loc Cert.Kernel5Ideal.main_v19_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_v36) = v4 c
          ∧ r.2.mem ((c.tc : Thread Cert.Reference5Ideal.nD Cert.Reference5Ideal.τ).loc Cert.Reference5Ideal.main_v38) = v5 c
          ∧ r.2.mem ((c.tc : Thread Cert.Reference5Ideal.nD Cert.Reference5Ideal.τ).loc Cert.Reference5Ideal.main_v39) = v6 c
          ∧ r.2.mem ((c.tc : Thread Cert.Reference5Ideal.nD Cert.Reference5Ideal.τ).loc Cert.Reference5Ideal.main_v45) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_v54) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8x2048x256 : Shape := ⟨3, ![8, 2048, 256]⟩
abbrev S4x256 : Shape := ⟨2, ![4, 256]⟩
abbrev S256 : Shape := ⟨1, ![256]⟩
abbrev S4x64x64 : Shape := ⟨3, ![4, 64, 64]⟩
abbrev S4x64 : Shape := ⟨2, ![4, 64]⟩
abbrev S1x4x64x64 : Shape := ⟨4, ![1, 4, 64, 64]⟩
abbrev S4x4 : Shape := ⟨2, ![4, 4]⟩
abbrev S_ : Shape := ⟨0, ![]⟩
abbrev S1x4x64x1x64 : Shape := ⟨5, ![1, 4, 64, 1, 64]⟩
abbrev S1x4x1x4x1 : Shape := ⟨5, ![1, 4, 1, 4, 1]⟩
abbrev S1x4x64x4x64 : Shape := ⟨5, ![1, 4, 64, 4, 64]⟩
abbrev S1x256x256 : Shape := ⟨3, ![1, 256, 256]⟩
abbrev S256x256 : Shape := ⟨2, ![256, 256]⟩
abbrev S1x256 : Shape := ⟨2, ![1, 256]⟩
abbrev S1x2048x256 : Shape := ⟨3, ![1, 2048, 256]⟩
abbrev S3072x256 : Shape := ⟨2, ![3072, 256]⟩
abbrev S2048x256 : Shape := ⟨2, ![2048, 256]⟩
abbrev S1024x256 : Shape := ⟨2, ![1024, 256]⟩

abbrev nBuf : Space → Nat
  | .hbm => 48
  | .vmem => 17
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S4x256, .f32⟩
  | .hbm, ⟨3, _⟩ => ⟨S256, .f32⟩
  | .hbm, ⟨4, _⟩ => ⟨S4x64x64, .f32⟩
  | .hbm, ⟨5, _⟩ => ⟨S4x64, .f32⟩
  | .hbm, ⟨6, _⟩ => ⟨S4x64x64, .f32⟩
  | .hbm, ⟨7, _⟩ => ⟨S4x64, .f32⟩
  | .hbm, ⟨8, _⟩ => ⟨S256, .f32⟩
  | .hbm, ⟨9, _⟩ => ⟨S1x4x64x64, .f32⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .f32⟩
  | .hbm, ⟨17, _⟩ => ⟨S1x4x64x1x64, .f32⟩
  | .hbm, ⟨18, _⟩ => ⟨S1x4x1x4x1, .f32⟩
  | .hbm, ⟨19, _⟩ => ⟨S1x4x64x4x64, .f32⟩
  | .hbm, ⟨20, _⟩ => ⟨S1x4x64x4x64, .f32⟩
  | .hbm, ⟨21, _⟩ => ⟨S1x4x64x4x64, .f32⟩
  | .hbm, ⟨22, _⟩ => ⟨S1x256x256, .f32⟩
  | .hbm, ⟨23, _⟩ => ⟨S1x256x256, .bf16⟩
  | .hbm, ⟨24, _⟩ => ⟨S256x256, .bf16⟩
  | .hbm, ⟨25, _⟩ => ⟨S1x4x64x64, .f32⟩
  | .hbm, ⟨26, _⟩ => ⟨S4x4, .i32⟩
  | .hbm, ⟨27, _⟩ => ⟨S4x4, .i32⟩
  | .hbm, ⟨28, _⟩ => ⟨S_, .i32⟩
  | .hbm, ⟨29, _⟩ => ⟨S4x4, .i32⟩
  | .hbm, ⟨30, _⟩ => ⟨S4x4, .i32⟩
  | .hbm, ⟨31, _⟩ => ⟨S4x4, .i1⟩
  | .hbm, ⟨32, _⟩ => ⟨S4x4, .f32⟩
  | .hbm, ⟨33, _⟩ => ⟨S1x4x64x1x64, .f32⟩
  | .hbm, ⟨34, _⟩ => ⟨S1x4x1x4x1, .f32⟩
  | .hbm, ⟨35, _⟩ => ⟨S1x4x64x4x64, .f32⟩
  | .hbm, ⟨36, _⟩ => ⟨S1x4x64x4x64, .f32⟩
  | .hbm, ⟨37, _⟩ => ⟨S1x4x64x4x64, .f32⟩
  | .hbm, ⟨38, _⟩ => ⟨S1x256x256, .f32⟩
  | .hbm, ⟨39, _⟩ => ⟨S1x256x256, .bf16⟩
  | .hbm, ⟨40, _⟩ => ⟨S256x256, .bf16⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S4x256, .f32⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S1x256, .f32⟩
  | .local _ .vmem, ⟨11, _⟩ => ⟨S1x2048x256, .f32⟩
  | .local _ .vmem, ⟨12, _⟩ => ⟨S1x2048x256, .f32⟩
  | .local _ .vmem, ⟨13, _⟩ => ⟨S3072x256, .f32⟩
  | .local _ .vmem, ⟨14, _⟩ => ⟨S3072x256, .f32⟩
  | .local _ .vmem, ⟨15, _⟩ => ⟨S3072x256, .f32⟩
  | .local _ .vmem, ⟨16, _⟩ => ⟨S3072x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x2048x256 : Shape := ⟨3, ![8, 2048, 256]⟩
abbrev S4x256 : Shape := ⟨2, ![4, 256]⟩
abbrev S256 : Shape := ⟨1, ![256]⟩
abbrev S4x64x64 : Shape := ⟨3, ![4, 64, 64]⟩
abbrev S4x64 : Shape := ⟨2, ![4, 64]⟩
abbrev S_ : Shape := ⟨0, ![]⟩
abbrev S8x2051x256 : Shape := ⟨3, ![8, 2051, 256]⟩
abbrev S1x256 : Shape := ⟨2, ![1, 256]⟩
abbrev S1x1x256 : Shape := ⟨3, ![1, 1, 256]⟩
abbrev S8x2048x4x64 : Shape := ⟨4, ![8, 2048, 4, 64]⟩
abbrev S4x64x8x2048 : Shape := ⟨4, ![4, 64, 8, 2048]⟩
abbrev S1x1x4x64 : Shape := ⟨4, ![1, 1, 4, 64]⟩
abbrev S8x256 : Shape := ⟨2, ![8, 256]⟩
abbrev S2048x8x256 : Shape := ⟨3, ![2048, 8, 256]⟩
abbrev S1x8x256 : Shape := ⟨3, ![1, 8, 256]⟩

abbrev nBuf : Space → Nat
  | .hbm => 150
  | .vmem => 0
  | .smem => 0
  | _ => 0

abbrev hbmTy0_0 (i : Nat) : BufTy := match i % 128 with
  | 0 => ⟨S8x2048x256, .f32⟩
  | 1 => ⟨S8x2048x256, .f32⟩
  | 2 => ⟨S4x256, .f32⟩
  | 3 => ⟨S256, .f32⟩
  | 4 => ⟨S4x64x64, .f32⟩
  | 5 => ⟨S4x64, .f32⟩
  | 6 => ⟨S4x64x64, .f32⟩
  | 7 => ⟨S4x64, .f32⟩
  | 8 => ⟨S256, .f32⟩
  | 9 => ⟨S_, .i32⟩
  | 10 => ⟨S_, .f32⟩
  | 11 => ⟨S8x2051x256, .f32⟩
  | 12 => ⟨S8x2048x256, .f32⟩
  | 13 => ⟨S1x256, .f32⟩
  | 14 => ⟨S256, .f32⟩
  | 15 => ⟨S1x1x256, .f32⟩
  | 16 => ⟨S8x2048x256, .f32⟩
  | 17 => ⟨S8x2048x256, .f32⟩
  | 18 => ⟨S1x1x256, .f32⟩
  | 19 => ⟨S8x2048x256, .f32⟩
  | 20 => ⟨S8x2048x256, .f32⟩
  | 21 => ⟨S8x2048x256, .f32⟩
  | 22 => ⟨S1x256, .f32⟩
  | 23 => ⟨S256, .f32⟩
  | 24 => ⟨S1x1x256, .f32⟩
  | 25 => ⟨S8x2048x256, .f32⟩
  | 26 => ⟨S8x2048x256, .f32⟩
  | 27 => ⟨S8x2048x256, .f32⟩
  | 28 => ⟨S8x2048x256, .f32⟩
  | 29 => ⟨S1x256, .f32⟩
  | 30 => ⟨S256, .f32⟩
  | 31 => ⟨S1x1x256, .f32⟩
  | 32 => ⟨S8x2048x256, .f32⟩
  | 33 => ⟨S8x2048x256, .f32⟩
  | 34 => ⟨S8x2048x256, .f32⟩
  | 35 => ⟨S8x2048x256, .f32⟩
  | 36 => ⟨S1x256, .f32⟩
  | 37 => ⟨S256, .f32⟩
  | 38 => ⟨S1x1x256, .f32⟩
  | 39 => ⟨S8x2048x256, .f32⟩
  | 40 => ⟨S8x2048x256, .f32⟩
  | 41 => ⟨S8x2048x256, .f32⟩
  | 42 => ⟨S8x2048x4x64, .f32⟩
  | 43 => ⟨S4x64x8x2048, .f32⟩
  | 44 => ⟨S8x2048x4x64, .f32⟩
  | 45 => ⟨S1x1x4x64, .f32⟩
  | 46 => ⟨S8x2048x4x64, .f32⟩
  | 47 => ⟨S8x2048x4x64, .f32⟩
  | 48 => ⟨S8x2048x4x64, .f32⟩
  | 49 => ⟨S8x2048x4x64, .f32⟩
  | 50 => ⟨S_, .f32⟩
  | 51 => ⟨S8x2048x4x64, .f32⟩
  | 52 => ⟨S8x2048x4x64, .f32⟩
  | 53 => ⟨S_, .f32⟩
  | 54 => ⟨S8x2048x4x64, .f32⟩
  | 55 => ⟨S8x2048x4x64, .f32⟩
  | 56 => ⟨S8x2048x256, .f32⟩
  | 57 => ⟨S4x64x8x2048, .f32⟩
  | 58 => ⟨S8x2048x4x64, .f32⟩
  | 59 => ⟨S1x1x4x64, .f32⟩
  | 60 => ⟨S8x2048x4x64, .f32⟩
  | 61 => ⟨S8x2048x4x64, .f32⟩
  | 62 => ⟨S8x2048x4x64, .f32⟩
  | 63 => ⟨S8x2048x4x64, .f32⟩
  | 64 => ⟨S_, .f32⟩
  | 65 => ⟨S8x2048x4x64, .f32⟩
  | 66 => ⟨S8x2048x4x64, .f32⟩
  | 67 => ⟨S_, .f32⟩
  | 68 => ⟨S8x2048x4x64, .f32⟩
  | 69 => ⟨S8x2048x4x64, .f32⟩
  | 70 => ⟨S8x2048x256, .f32⟩
  | 71 => ⟨S_, .f32⟩
  | 72 => ⟨S8x2048x256, .f32⟩
  | 73 => ⟨S8x2048x256, .f32⟩
  | 74 => ⟨S256, .f32⟩
  | 75 => ⟨S_, .f32⟩
  | 76 => ⟨S256, .f32⟩
  | 77 => ⟨S256, .f32⟩
  | 78 => ⟨S256, .f32⟩
  | 79 => ⟨S256, .f32⟩
  | 80 => ⟨S256, .i1⟩
  | 81 => ⟨S256, .f32⟩
  | 82 => ⟨S256, .f32⟩
  | 83 => ⟨S256, .f32⟩
  | 84 => ⟨S256, .f32⟩
  | 85 => ⟨S256, .f32⟩
  | 86 => ⟨S256, .f32⟩
  | 87 => ⟨S256, .f32⟩
  | 88 => ⟨S256, .f32⟩
  | 89 => ⟨S1x1x256, .f32⟩
  | 90 => ⟨S8x2048x256, .f32⟩
  | 91 => ⟨S8x2048x256, .f32⟩
  | 92 => ⟨S8x2048x256, .f32⟩
  | 93 => ⟨S_, .f32⟩
  | 94 => ⟨S8x2048x256, .f32⟩
  | 95 => ⟨S8x2048x256, .f32⟩
  | 96 => ⟨S8x2048x256, .f32⟩
  | 97 => ⟨S8x2048x256, .f32⟩
  | 98 => ⟨S8x2048x256, .f32⟩
  | 99 => ⟨S8x2048x256, .f32⟩
  | 100 => ⟨S8x2048x256, .f32⟩
  | 101 => ⟨S_, .f32⟩
  | 102 => ⟨S8x256, .f32⟩
  | 103 => ⟨S2048x8x256, .f32⟩
  | 104 => ⟨S2048x8x256, .f32⟩
  | 105 => ⟨S_, .f32⟩
  | 106 => ⟨S2048x8x256, .f32⟩
  | 107 => ⟨S_, .i32⟩
  | 108 => ⟨S2048x8x256, .f32⟩
  | 109 => ⟨S2048x8x256, .f32⟩
  | 110 => ⟨S_, .i32⟩
  | 111 => ⟨S8x256, .f32⟩
  | 112 => ⟨S2048x8x256, .f32⟩
  | 113 => ⟨S_, .i32⟩
  | 114 => ⟨S_, .i1⟩
  | 115 => ⟨S_, .i32⟩
  | 116 => ⟨S_, .i32⟩
  | 117 => ⟨S1x8x256, .f32⟩
  | 118 => ⟨S8x256, .f32⟩
  | 119 => ⟨S_, .i32⟩
  | 120 => ⟨S_, .i32⟩
  | 121 => ⟨S1x8x256, .f32⟩
  | 122 => ⟨S8x256, .f32⟩
  | 123 => ⟨S8x256, .f32⟩
  | 124 => ⟨S8x256, .f32⟩
  | 125 => ⟨S1x8x256, .f32⟩
  | 126 => ⟨S_, .i32⟩
  | 127 => ⟨S_, .i32⟩
  | _ => ⟨S8x2048x256, .f32⟩

abbrev hbmTy0_1 (i : Nat) : BufTy := match i % 128 with
  | 0 => ⟨S2048x8x256, .f32⟩
  | 1 => ⟨S_, .i32⟩
  | 2 => ⟨S_, .i32⟩
  | 3 => ⟨S8x2048x256, .f32⟩
  | 4 => ⟨S8x2048x256, .f32⟩
  | 5 => ⟨S8x2048x256, .f32⟩
  | 6 => ⟨S_, .f32⟩
  | 7 => ⟨S8x2048x256, .f32⟩
  | 8 => ⟨S8x2048x256, .f32⟩
  | 9 => ⟨S8x2048x256, .f32⟩
  | 10 => ⟨S_, .f32⟩
  | 11 => ⟨S8x2048x256, .f32⟩
  | 12 => ⟨S8x2048x256, .f32⟩
  | 13 => ⟨S8x2048x256, .f32⟩
  | 14 => ⟨S_, .f32⟩
  | 15 => ⟨S8x2048x256, .f32⟩
  | 16 => ⟨S8x2048x256, .f32⟩
  | 17 => ⟨S_, .f32⟩
  | 18 => ⟨S8x2048x256, .f32⟩
  | 19 => ⟨S8x2048x256, .f32⟩
  | 20 => ⟨S8x2048x256, .f32⟩
  | 21 => ⟨S8x2048x256, .f32⟩
  | _ => ⟨S8x2048x256, .f32⟩

abbrev hbmTy (i : Nat) : BufTy := match i / 128 with
  | 0 => hbmTy0_0 i
  | 1 => hbmTy0_1 i
  | _ => ⟨S8x2048x256, .f32⟩

abbrev bufTy : (tb : Table) → Fin (tcTables nBuf tb) → BufTy
  | .hbm, ⟨i, _⟩ => hbmTy i
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst : Ref sig .tc := ⟨.hbm, 50, rfl⟩
abbrev main_v39 : Ref sig .tc := ⟨.hbm, 51, rfl⟩
abbrev main_v40 : Ref sig .tc := ⟨.hbm, 52, rfl⟩
abbrev main_cst_0 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_1 : Ref sig .tc := ⟨.hbm, 64, rfl⟩
abbrev main_v51 : Ref sig .tc := ⟨.hbm, 65, rfl⟩
abbrev main_v52 : Ref sig .tc := ⟨.hbm, 66, rfl⟩
abbrev main_cst_2 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_4 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_5 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_6 : Ref sig .tc := ⟨.hbm, 105, rfl⟩
abbrev main_v74 : Ref sig .tc := ⟨.hbm, 106, rfl⟩
abbrev main_c_7 : Ref sig .tc := ⟨.hbm, 107, rfl⟩
abbrev main_v75_0 : Ref sig .tc := ⟨.hbm, 108, rfl⟩
abbrev main_v75_1 : Ref sig .tc := ⟨.hbm, 109, rfl⟩
abbrev main_v75_2 : Ref sig .tc := ⟨.hbm, 110, rfl⟩
abbrev main_v75_3 : Ref sig .tc := ⟨.hbm, 111, rfl⟩
abbrev main_v75_4 : Ref sig .tc := ⟨.hbm, 112, rfl⟩
abbrev main_while0c_c_16 : Ref sig .tc := ⟨.hbm, 113, rfl⟩
abbrev main_while0c_v91 : Ref sig .tc := ⟨.hbm, 114, rfl⟩
abbrev main_while0b_call2_c : Ref sig .tc := ⟨.hbm, 115, rfl⟩
abbrev main_while0b_call2_c_0 : Ref sig .tc := ⟨.hbm, 116, rfl⟩
abbrev main_while0b_call2_v0 : Ref sig .tc := ⟨.hbm, 117, rfl⟩
abbrev main_while0b_v91 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_v0 : Ref sig .tc := ⟨.hbm, 121, rfl⟩
abbrev main_while0b_v92 : Ref sig .tc := ⟨.hbm, 122, rfl⟩
abbrev main_while0b_v93 : Ref sig .tc := ⟨.hbm, 123, rfl⟩
abbrev main_while0b_v94 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_v95 : Ref sig .tc := ⟨.hbm, 128, rfl⟩
abbrev main_while0b_c_16 : Ref sig .tc := ⟨.hbm, 129, rfl⟩
abbrev main_while0b_v96 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_cst_8 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_9 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_cst_10 : Ref sig .tc := ⟨.hbm, 142, rfl⟩
abbrev main_v85 : Ref sig .tc := ⟨.hbm, 143, rfl⟩
abbrev main_v86 : Ref sig .tc := ⟨.hbm, 144, rfl⟩
abbrev main_cst_11 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S16384x1024 : Shape := ⟨2, ![16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 12
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1024x2816, .bf16⟩
  | .hbm, ⟨6, _⟩ => ⟨S4x1024x2816, .bf16⟩
  | .hbm, ⟨7, _⟩ => ⟨S4x2816x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![32, 1], ![false, false]⟩

def k0_cond4 (i : grid0.Coords) : BitVec 1 :=
  let arg1 : BitVec 32 := BitVec.ofNat 32 (i 1).val
  let c0_i32_17 : BitVec 32 := 0#32
  let v23 : BitVec 1 := Scalar.cmpi .eq arg1 c0_i32_17
  let v24 : BitVec 32 := Scalar.extui v23
  let c0_i32_18 : BitVec 32 := 0#32
  let v25 : BitVec 1 := Scalar.cmpi .ne v24 c0_i32_18
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x1024 : Shape := ⟨2, ![16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel3.lean ====
abbrev S16384x1024 : Shape := ⟨2, ![16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 14
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S4x1024x2816, .bf16⟩
  | .hbm, ⟨7, _⟩ => ⟨S4x1024x2816, .bf16⟩
  | .hbm, ⟨8, _⟩ => ⟨S4x2816x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![32, 1], ![false, false]⟩

def k0_cond4 (i : grid0.Coords) : BitVec 1 :=
  let arg1 : BitVec 32 := BitVec.ofNat 32 (i 1).val
  let c0_i32_17 : BitVec 32 := 0#32
  let v23 : BitVec 1 := Scalar.cmpi .eq arg1 c0_i32_17
  let v24 : BitVec 32 := Scalar.extui v23
  let c0_i32_18 : BitVec 32 := 0#32
  let v25 : BitVec 1 := Scalar.cmpi .ne v24 c0_i32_18
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x1024 : Shape := ⟨2, ![16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S16384x256 : Shape := ⟨2, ![16384, 256]⟩
abbrev S4x16x64 : Shape := ⟨3, ![4, 16, 64]⟩
abbrev S4x1024x1024 : Shape := ⟨3, ![4, 1024, 1024]⟩
abbrev S128 : Shape := ⟨1, ![128]⟩
abbrev S16x64 : Shape := ⟨2, ![16, 64]⟩
abbrev S1024 : Shape := ⟨1, ![1024]⟩
abbrev S1024x1 : Shape := ⟨2, ![1024, 1]⟩
abbrev S1x128 : Shape := ⟨2, ![1, 128]⟩
abbrev S1024x128 : Shape := ⟨2, ![1024, 128]⟩
abbrev S128x1024 : Shape := ⟨2, ![128, 1024]⟩
abbrev S4x1x1024 : Shape := ⟨3, ![4, 1, 1024]⟩
abbrev S1x1x1024 : Shape := ⟨3, ![1, 1, 1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S1x1024x1024 : Shape := ⟨3, ![1, 1024, 1024]⟩
abbrev S512x128 : Shape := ⟨2, ![512, 128]⟩
abbrev S128x512 : Shape := ⟨2, ![128, 512]⟩
abbrev S1x512 : Shape := ⟨2, ![1, 512]⟩
abbrev S1x512x1024 : Shape := ⟨3, ![1, 512, 1024]⟩
abbrev S256x128 : Shape := ⟨2, ![256, 128]⟩
abbrev S128x256 : Shape := ⟨2, ![128, 256]⟩
abbrev S1x256 : Shape := ⟨2, ![1, 256]⟩
abbrev S1x256x1024 : Shape := ⟨3, ![1, 256, 1024]⟩
abbrev S256x1024 : Shape := ⟨2, ![256, 1024]⟩

abbrev nBuf : Space → Nat
  | .hbm => 22
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x256, .f32⟩
  | .hbm, ⟨3, _⟩ => ⟨S16384x256, .f32⟩
  | .hbm, ⟨4, _⟩ => ⟨S4x16x64, .f32⟩
  | .hbm, ⟨5, _⟩ => ⟨S4x1024x1024, .f32⟩
  | .hbm, ⟨6, _⟩ => ⟨S128, .i32⟩
  | .hbm, ⟨7, _⟩ => ⟨S16x64, .i32⟩
  | .hbm, ⟨8, _⟩ => ⟨S1024, .i32⟩
  | .hbm, ⟨9, _⟩ => ⟨S1024x1, .i32⟩
  | .hbm, ⟨10, _⟩ => ⟨S1x128, .i32⟩
  | .hbm, ⟨11, _⟩ => ⟨S1024x128, .i32⟩
  | .hbm, ⟨12, _⟩ => ⟨S1024x128, .i32⟩
  | .hbm, ⟨13, _⟩ => ⟨S1024x128, .i1⟩
  | .hbm, ⟨14, _⟩ => ⟨S1024x128, .bf16⟩
  | .hbm, ⟨15, _⟩ => ⟨S128x1024, .i1⟩
  | .hbm, ⟨16, _⟩ => ⟨S128x1024, .bf16⟩
  | .hbm, ⟨17, _⟩ => ⟨S4x1024x1024, .bf16⟩
  | .hbm, ⟨18, _⟩ => ⟨S4x1x1024, .f32⟩
  | .hbm, ⟨19, _⟩ => ⟨S1x1x1024, .f32⟩
  | .hbm, ⟨20, _⟩ => ⟨S1x1024, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x128, .bf16⟩
  | .local _ .vmem, ⟨10, _⟩ => ⟨S128x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S16384x512 : Shape := ⟨2, ![16384, 512]⟩
abbrev S16384x256 : Shape := ⟨2, ![16384, 256]⟩
abbrev S4x16x64 : Shape := ⟨3, ![4, 16, 64]⟩
abbrev S4x1024x1024 : Shape := ⟨3, ![4, 1024, 1024]⟩
abbrev S16384x16x64 : Shape := ⟨3, ![16384, 16, 64]⟩
abbrev S1x16x64 : Shape := ⟨3, ![1, 16, 64]⟩
abbrev S16x64 : Shape := ⟨2, ![16, 64]⟩
abbrev S_ : Shape := ⟨0, ![]⟩
abbrev S16384x16 : Shape := ⟨2, ![16384, 16]⟩
abbrev S16384x16x1 : Shape := ⟨3, ![16384, 16, 1]⟩
abbrev S1x1024x1024 : Shape := ⟨3, ![1, 1024, 1024]⟩
abbrev S1024x1024 : Shape := ⟨2, ![1024, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x256, .f32⟩
  | .hbm, ⟨3, _⟩ => ⟨S16384x256, .f32⟩
  | .hbm, ⟨4, _⟩ => ⟨S4x16x64, .f32⟩
  | .hbm, ⟨5, _⟩ => ⟨S4x1024x1024, .f32⟩
  | .hbm, ⟨6, _⟩ => ⟨S16384x1024, .f32⟩
  | .hbm, ⟨7, _⟩ => ⟨S16384x16x64, .f32⟩
  | .hbm, ⟨8, _⟩ => ⟨S1x16x64, .f32⟩
  | .hbm, ⟨9, _⟩ => ⟨S16x64, .f32⟩
  | .hbm, ⟨10, _⟩ => ⟨S16384x16x64, .f32⟩
  | .hbm, ⟨11, _⟩ => ⟨S_, .f32⟩
  | .hbm, ⟨12, _⟩ => ⟨S16384x16, .f32⟩
  | .hbm, ⟨13, _⟩ => ⟨S16384x16x1, .f32⟩
  | .hbm, ⟨14, _⟩ => ⟨S_, .f32⟩
  | .hbm, ⟨15, _⟩ => ⟨S16384x16x1, .f32⟩
  | .hbm, ⟨16, _⟩ => ⟨S16384x16x1, .f32⟩
  | .hbm, ⟨17, _⟩ => ⟨S_, .f32⟩
  | .hbm, ⟨18, _⟩ => ⟨S16384x16x1, .f32⟩
  | .hbm, ⟨19, _⟩ => ⟨S16384x16x1, .f32⟩
  | .hbm, ⟨20, _⟩ => ⟨S16384x16x1, .f32⟩
  | .hbm, ⟨21, _⟩ => ⟨S16384x16x64, .f32⟩
  | .hbm, ⟨22, _⟩ => ⟨S16384x16x64, .f32⟩
  | .hbm, ⟨23, _⟩ => ⟨S1x16x64, .f32⟩
  | .hbm, ⟨24, _⟩ => ⟨S16384x16x64, .f32⟩
  | .hbm, ⟨25, _⟩ => ⟨S16384x16x64, .f32⟩
  | .hbm, ⟨26, _⟩ => ⟨S16384x1024, .f32⟩
  | .hbm, ⟨27, _⟩ => ⟨S1x1024x1024, .f32⟩
  | .hbm, ⟨28, _⟩ => ⟨S1024x1024, .f32⟩
  | .hbm, ⟨29, _⟩ => ⟨S16384x1024, .f32⟩
  | .hbm, ⟨30, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel5.lean ====
abbrev S8x2048x1024 : Shape := ⟨3, ![8, 2048, 1024]⟩
abbrev S4x1024 : Shape := ⟨2, ![4, 1024]⟩
abbrev S4x1024x2848 : Shape := ⟨3, ![4, 1024, 2848]⟩
abbrev S_ : Shape := ⟨0, ![]⟩
abbrev S4x1024x96 : Shape := ⟨3, ![4, 1024, 96]⟩
abbrev S4x1024x1280 : Shape := ⟨3, ![4, 1024, 1280]⟩
abbrev S4x1024x768 : Shape := ⟨3, ![4, 1024, 768]⟩
abbrev S4x1024x256 : Shape := ⟨3, ![4, 1024, 256]⟩
abbrev S4x1024x512 : Shape := ⟨3, ![4, 1024, 512]⟩
abbrev S4x1024x24 : Shape := ⟨3, ![4, 1024, 24]⟩
abbrev S4x1024x8 : Shape := ⟨3, ![4, 1024, 8]⟩
abbrev S4x1024x2944 : Shape := ⟨3, ![4, 1024, 2944]⟩
abbrev S4x1024x128 : Shape := ⟨3, ![4, 1024, 128]⟩
abbrev S4x1024x544 : Shape := ⟨3, ![4, 1024, 544]⟩
abbrev S4x544x1024 : Shape := ⟨3, ![4, 544, 1024]⟩
abbrev S1x1024 : Shape := ⟨2, ![1, 1024]⟩
abbrev S1024 : Shape := ⟨1, ![1024]⟩
abbrev S8x36x2048x64 : Shape := ⟨4, ![8, 36, 2048, 64]⟩
abbrev S8x2048x256 : Shape := ⟨3, ![8, 2048, 256]⟩
abbrev S8x2048x128 : Shape := ⟨3, ![8, 2048, 128]⟩
abbrev S8x4x32x64x64 : Shape := ⟨5, ![8, 4, 32, 64, 64]⟩
abbrev S8x32x8x64 : Shape := ⟨4, ![8, 32, 8, 64]⟩
abbrev S8x24x2048 : Shape := ⟨3, ![8, 24, 2048]⟩
abbrev S8x4x64x2048 : Shape := ⟨4, ![8, 4, 64, 2048]⟩
abbrev S1x512x1024 : Shape := ⟨3, ![1, 512, 1024]⟩
abbrev S1x1024x2944 : Shape := ⟨3, ![1, 1024, 2944]⟩
abbrev S1x544x1024 : Shape := ⟨3, ![1, 544, 1024]⟩
abbrev S1x36x512x64 : Shape := ⟨4, ![1, 36, 512, 64]⟩
abbrev S1x512x256 : Shape := ⟨3, ![1, 512, 256]⟩
abbrev S1x512x128 : Shape := ⟨3, ![1, 512, 128]⟩
abbrev S1x4x8x64x64 : Shape := ⟨5, ![1, 4, 8, 64, 64]⟩
abbrev S1x8x8x64 : Shape := ⟨4, ![1, 8, 8, 64]⟩
abbrev S1x24x512 : Shape := ⟨3, ![1, 24, 512]⟩
abbrev S1x4x64x512 : Shape := ⟨4, ![1, 4, 64, 512]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x64 : Shape := ⟨2, ![512, 64]⟩
abbrev S1x1x512x64 : Shape := ⟨4, ![1, 1, 512, 64]⟩
abbrev S1x1024x128 : Shape := ⟨3, ![1, 1024, 128]⟩
abbrev S1024x128 : Shape := ⟨2, ![1024, 128]⟩
abbrev S512x128 : Shape := ⟨2, ![512, 128]⟩
abbrev S544x1024 : Shape := ⟨2, ![544, 1024]⟩
abbrev S544x512 : Shape := ⟨2, ![544, 512]⟩
abbrev S64x64 : Shape := ⟨2, ![64, 64]⟩
abbrev S1x1x1x64x64 : Shape := ⟨5, ![1, 1, 1, 64, 64]⟩
abbrev S8x64 : Shape := ⟨2, ![8, 64]⟩
abbrev S1x1x8x64 : Shape := ⟨4, ![1, 1, 8, 64]⟩
abbrev S24x512 : Shape := ⟨2, ![24, 512]⟩
abbrev S64x512 : Shape := ⟨2, ![64, 512]⟩
abbrev S1x1x64x512 : Shape := ⟨4, ![1, 1, 64, 512]⟩

abbrev nBuf : Space → Nat
  | .hbm => 31
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x2848, .f32⟩
  | .hbm, ⟨3, _⟩ => ⟨S4x1024x2848, .bf16⟩
  | .hbm, ⟨4, _⟩ => ⟨S_, .bf16⟩
  | .hbm, ⟨5, _⟩ => ⟨S4x1024x96, .bf16⟩
  | .hbm, ⟨6, _⟩ => ⟨S4x1024x1280, .bf16⟩
  | .hbm, ⟨7, _⟩ => ⟨S4x1024x768, .bf16⟩
  | .hbm, ⟨8, _⟩ => ⟨S4x1024x256, .bf16⟩
  | .hbm, ⟨9, _⟩ => ⟨S4x1024x512, .bf16⟩
  | .hbm, ⟨10, _⟩ => ⟨S4x1024x24, .bf16⟩
  | .hbm, ⟨11, _⟩ => ⟨S4x1024x8, .bf16⟩
  | .hbm, ⟨12, _⟩ => ⟨S4x1024x2944, .bf16⟩
  | .hbm, ⟨13, _⟩ => ⟨S4x1024x256, .bf16⟩
  | .hbm, ⟨14, _⟩ => ⟨S4x1024x8, .bf16⟩
  | .hbm, ⟨15, _⟩ => ⟨S4x1024x24, .bf16⟩
  | .hbm, ⟨16, _⟩ => ⟨S4x1024x128, .bf16⟩
  | .hbm, ⟨17, _⟩ => ⟨S4x1024x128, .bf16⟩
  | .hbm, ⟨18, _⟩ => ⟨S4x1024x544, .bf16⟩
  | .hbm, ⟨19, _⟩ => ⟨S4x544x1024, .bf16⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S8x36x2048x64, .f32⟩
  | .hbm, ⟨24, _⟩ => ⟨S8x2048x256, .f32⟩
  | .hbm, ⟨25, _⟩ => ⟨S8x2048x256, .f32⟩
  | .hbm, ⟨26, _⟩ => ⟨S8x2048x128, .f32⟩
  | .hbm, ⟨27, _⟩ => ⟨S8x4x32x64x64, .f32⟩
  | .hbm, ⟨28, _⟩ => ⟨S8x32x8x64, .f32⟩
  | .hbm, ⟨29, _⟩ => ⟨S8x24x2048, .f32⟩
  | .hbm, ⟨30, _⟩ => ⟨S8x4x64x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x2944, .bf16⟩
  | .local _ .vmem, ⟨4, _⟩ => ⟨S1x544x1024, .bf16⟩
  | .local _ .vmem, ⟨5, _⟩ => ⟨S1x36x512x64, .f32⟩
  | .local _ .vmem, ⟨6, _⟩ => ⟨S1x36x512x64, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x128, .f32⟩
  | .local _ .vmem, ⟨12, _⟩ => ⟨S1x512x128, .f32⟩
  | .local _ .vmem, ⟨13, _⟩ => ⟨S1x4x8x64x64, .f32⟩
  | .local _ .vmem, ⟨14, _⟩ => ⟨S1x4x8x64x64, .f32⟩
  | .local _ .vmem, ⟨15, _⟩ => ⟨S1x8x8x64, .f32⟩
  | .local _ .vmem, ⟨16, _⟩ => ⟨S1x8x8x64, .f32⟩
  | .local _ .vmem, ⟨17, _⟩ => ⟨S1x24x512, .f32⟩
  | .local _ .vmem, ⟨18, _⟩ => ⟨S1x24x512, .f32⟩
  | .local _ .vmem, ⟨19, _⟩ => ⟨S1x4x64x512, .f32⟩
  | .local _ .vmem, ⟨20, _⟩ => ⟨S1x4x64x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev main_v19_3 : Ref sig .tc := ⟨.hbm, 26, rfl⟩
abbrev main_v19_4 : Ref sig .tc := ⟨.hbm, 27, rfl⟩
abbrev main_v19_5 : Ref sig .tc := ⟨.hbm, 28, rfl⟩
abbrev main_v19_6 : Ref sig .tc := ⟨.hbm, 29, rfl⟩
abbrev main_v19_7 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x544x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x36x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x8x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x24x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S8x2048x1024 : Shape := ⟨3, ![8, 2048, 1024]⟩
abbrev S4x1024 : Shape := ⟨2, ![4, 1024]⟩
abbrev S4x1024x2848 : Shape := ⟨3, ![4, 1024, 2848]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2848 : Shape := ⟨3, ![1, 1024, 2848]⟩
abbrev S1024x2848 : Shape := ⟨2, ![1024, 2848]⟩
abbrev S8x2048x2848 : Shape := ⟨3, ![8, 2048, 2848]⟩
abbrev S8x2048x512 : Shape := ⟨3, ![8, 2048, 512]⟩
abbrev S8x2048x768 : Shape := ⟨3, ![8, 2048, 768]⟩
abbrev S8x2048x24 : Shape := ⟨3, ![8, 2048, 24]⟩
abbrev S8x2048x256 : Shape := ⟨3, ![8, 2048, 256]⟩
abbrev S8x2048x8 : Shape := ⟨3, ![8, 2048, 8]⟩
abbrev S8x2048x2304 : Shape := ⟨3, ![8, 2048, 2304]⟩
abbrev S8x2048x36x64 : Shape := ⟨4, ![8, 2048, 36, 64]⟩
abbrev S8x36x2048x64 : Shape := ⟨4, ![8, 36, 2048, 64]⟩
abbrev S8x2048x32 : Shape := ⟨3, ![8, 2048, 32]⟩
abbrev S8x2048x128 : Shape := ⟨3, ![8, 2048, 128]⟩
abbrev S8x2048x4x64 : Shape := ⟨4, ![8, 2048, 4, 64]⟩
abbrev S8x4x2048x64 : Shape := ⟨4, ![8, 4, 2048, 64]⟩
abbrev S8x4x32x64x64 : Shape := ⟨5, ![8, 4, 32, 64, 64]⟩
abbrev S8x32x64x8 : Shape := ⟨4, ![8, 32, 64, 8]⟩
abbrev S8x32x8x64 : Shape := ⟨4, ![8, 32, 8, 64]⟩
abbrev S8x24x2048 : Shape := ⟨3, ![8, 24, 2048]⟩
abbrev S8x4x64x2048 : Shape := ⟨4, ![8, 4, 64, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x2848, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1x1024x2848, .f32⟩
  | .hbm, ⟨22, _⟩ => ⟨S1024x2848, .f32⟩
  | .hbm, ⟨23, _⟩ => ⟨S8x2048x2848, .f32⟩
  | .hbm, ⟨24, _⟩ => ⟨S8x2048x512, .f32⟩
  | .hbm, ⟨25, _⟩ => ⟨S8x2048x768, .f32⟩
  | .hbm, ⟨26, _⟩ => ⟨S8x2048x24, .f32⟩
  | .hbm, ⟨27, _⟩ => ⟨S8x2048x256, .f32⟩
  | .hbm, ⟨28, _⟩ => ⟨S8x2048x256, .f32⟩
  | .hbm, ⟨29, _⟩ => ⟨S8x2048x256, .f32⟩
  | .hbm, ⟨30, _⟩ => ⟨S8x2048x256, .f32⟩
  | .hbm, ⟨31, _⟩ => ⟨S8x2048x256, .f32⟩
  | .hbm, ⟨32, _⟩ => ⟨S8x2048x8, .f32⟩
  | .hbm, ⟨33, _⟩ => ⟨S8x2048x256, .f32⟩
  | .hbm, ⟨34, _⟩ => ⟨S8x2048x2304, .f32⟩
  | .hbm, ⟨35, _⟩ => ⟨S8x2048x36x64, .f32⟩
  | .hbm, ⟨36, _⟩ => ⟨S8x36x2048x64, .f32⟩
  | .hbm, ⟨37, _⟩ => ⟨S8x2048x32, .f32⟩
  | .hbm, ⟨38, _⟩ => ⟨S_, .i32⟩
  | .hbm, ⟨39, _⟩ => ⟨S_, .f32⟩
  | .hbm, ⟨40, _⟩ => ⟨S8x2048x128, .f32⟩
  | .hbm, ⟨41, _⟩ => ⟨S8x2048x4x64, .f32⟩
  | .hbm, ⟨42, _⟩ => ⟨S8x4x2048x64, .f32⟩
  | .hbm, ⟨43, _⟩ => ⟨S8x4x32x64x64, .f32⟩
  | .hbm, ⟨44, _⟩ => ⟨S8x4x32x64x64, .f32⟩
  | .hbm, ⟨45, _⟩ => ⟨S8x32x64x8, .f32⟩
  | .hbm, ⟨46, _⟩ => ⟨S8x32x8x64, .f32⟩
  | .hbm, ⟨47, _⟩ => ⟨S8x24x2048, .f32⟩
  | .hbm, ⟨48, _⟩ => ⟨S8x2048x128, .f32⟩
  | .hbm, ⟨49, _⟩ => ⟨S8x2048x128, .f32⟩
  | .hbm, ⟨50, _⟩ => ⟨S8x2048x256, .f32⟩
  | .hbm, ⟨51, _⟩ => ⟨S8x2048x4x64, .f32⟩
  | .hbm, ⟨52, _⟩ => ⟨S8x4x2048x64, .f32⟩
  | .hbm, ⟨53, _⟩ => ⟨S8x4x64x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_call0_v0 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== Kernel6.lean ====
abbrev S8x36x2048x64 : Shape := ⟨4, ![8, 36, 2048, 64]⟩
abbrev S4x32x64 : Shape := ⟨3, ![4, 32, 64]⟩
abbrev S4x2048x256 : Shape := ⟨3, ![4, 2048, 256]⟩
abbrev S4x256x64 : Shape := ⟨3, ![4, 256, 64]⟩
abbrev S4x1x32x64 : Shape := ⟨4, ![4, 1, 32, 64]⟩
abbrev S4x2x32x64 : Shape := ⟨4, ![4, 2, 32, 64]⟩
abbrev S4x1x2048x256 : Shape := ⟨4, ![4, 1, 2048, 256]⟩
abbrev S4x2x2048x256 : Shape := ⟨4, ![4, 2, 2048, 256]⟩
abbrev S4x64x256 : Shape := ⟨3, ![4, 64, 256]⟩
abbrev S1x2x32x64 : Shape := ⟨4, ![1, 2, 32, 64]⟩
abbrev S2x32x64 : Shape := ⟨3, ![2, 32, 64]⟩
abbrev S1x2x2048x256 : Shape := ⟨4, ![1, 2, 2048, 256]⟩
abbrev S2x2048x256 : Shape := ⟨3, ![2, 2048, 256]⟩
abbrev S1x256x64 : Shape := ⟨3, ![1, 256, 64]⟩
abbrev S256x64 : Shape := ⟨2, ![256, 64]⟩
abbrev S1x64x256 : Shape := ⟨3, ![1, 64, 256]⟩
abbrev S64x256 : Shape := ⟨2, ![64, 256]⟩
abbrev S8x2x128x128 : Shape := ⟨4, ![8, 2, 128, 128]⟩
abbrev S8x2x64x128 : Shape := ⟨4, ![8, 2, 64, 128]⟩
abbrev S1x1x2048x64 : Shape := ⟨4, ![1, 1, 2048, 64]⟩
abbrev S1x1x128x128 : Shape := ⟨4, ![1, 1, 128, 128]⟩
abbrev S1x1x64x128 : Shape := ⟨4, ![1, 1, 64, 128]⟩
abbrev S1x1x128x64 : Shape := ⟨4, ![1, 1, 128, 64]⟩
abbrev S128x64 : Shape := ⟨2, ![128, 64]⟩
abbrev S1x32x64 : Shape := ⟨3, ![1, 32, 64]⟩
abbrev S1x1x64 : Shape := ⟨3, ![1, 1, 64]⟩
abbrev S1x64 : Shape := ⟨2, ![1, 64]⟩
abbrev S1x2048x256 : Shape := ⟨3, ![1, 2048, 256]⟩
abbrev S128x256 : Shape := ⟨2, ![128, 256]⟩
abbrev S128x128 : Shape := ⟨2, ![128, 128]⟩
abbrev S64x128 : Shape := ⟨2, ![64, 128]⟩

abbrev nBuf : Space → Nat
  | .hbm => 27
  | .vmem => 12
  | .smem => 0
  | _ => 0

abbrev bufTy : (tb : Table) → Fin (tcTables nBuf tb) → BufTy
  | .hbm, ⟨0, _⟩ => ⟨S8x36x2048x64, .f32⟩
  | .hbm, ⟨1, _⟩ => ⟨S4x32x64, .f32⟩
  | .hbm, ⟨2, _⟩ => ⟨S4x2048x256, .f32⟩
  | .hbm, ⟨3, _⟩ => ⟨S4x256x64, .f32⟩
  | .hbm, ⟨4, _⟩ => ⟨S4x32x64, .f32⟩
  | .hbm, ⟨5, _⟩ => ⟨S4x2048x256, .f32⟩
  | .hbm, ⟨6, _⟩ => ⟨S4x256x64, .f32⟩
  | .hbm, ⟨7, _⟩ => ⟨S4x1x32x64, .f32⟩
  | .hbm, ⟨8, _⟩ => ⟨S4x1x32x64, .f32⟩
  | .hbm, ⟨9, _⟩ => ⟨S4x2x32x64, .f32⟩
  | .hbm, ⟨10, _⟩ => ⟨S4x1x2048x256, .f32⟩
  | .hbm, ⟨11, _⟩ => ⟨S4x1x2048x256, .f32⟩
  | .hbm, ⟨12, _⟩ => ⟨S4x2x2048x256, .f32⟩
  | .hbm, ⟨13, _⟩ => ⟨S4x2x2048x256, .bf16⟩
  | .hbm, ⟨14, _⟩ => ⟨S4x256x64, .bf16⟩
  | .hbm, ⟨15, _⟩ => ⟨S4x64x256, .f32⟩
  | .hbm, ⟨16, _⟩ => ⟨S4x64x256, .bf16⟩
  | .hbm, ⟨17, _⟩ => ⟨S1x2x32x64, .f32⟩
  | .hbm, ⟨18, _⟩ => ⟨S2x32x64, .f32⟩
  | .hbm, ⟨19, _⟩ => ⟨S1x2x2048x256, .bf16⟩
  | .hbm, ⟨20, _⟩ => ⟨S2x2048x256, .bf16⟩
  | .hbm, ⟨21, _⟩ => ⟨S1x256x64, .bf16⟩
  | .hbm, ⟨22, _⟩ => ⟨S256x64, .bf16⟩
  | .hbm, ⟨23, _⟩ => ⟨S1x64x256, .bf16⟩
  | .hbm, ⟨24, _⟩ => ⟨S64x256, .bf16⟩
  | .hbm, ⟨25, _⟩ => ⟨S8x2x128x128, .bf16⟩
  | .hbm, ⟨26, _⟩ => ⟨S8x2x64x128, .bf16⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S2x32x64, .f32⟩
  | .local _ .vmem, ⟨5, _⟩ => ⟨S2x2048x256, .bf16⟩
  | .local _ .vmem, ⟨6, _⟩ => ⟨S256x64, .bf16⟩
  | .local _ .vmem, ⟨7, _⟩ => ⟨S64x256, .bf16⟩
  | .local _ .vmem, ⟨8, _⟩ => ⟨S1x1x128x128, .bf16⟩
  | .local _ .vmem, ⟨9, _⟩ => ⟨S1x1x128x128, .bf16⟩
  | .local _ .vmem, ⟨10, _⟩ => ⟨S1x1x64x128, .bf16⟩
  | .local _ .vmem, ⟨11, _⟩ => ⟨S1x1x64x128, .bf16⟩
  | _, _ => ⟨S8x36x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S8x36x2048x64 : Shape := ⟨4, ![8, 36, 2048, 64]⟩
abbrev S4x32x64 : Shape := ⟨3, ![4, 32, 64]⟩
abbrev S4x2048x256 : Shape := ⟨3, ![4, 2048, 256]⟩
abbrev S4x256x64 : Shape := ⟨3, ![4, 256, 64]⟩
abbrev S8x2x2048x64 : Shape := ⟨4, ![8, 2, 2048, 64]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256x64 : Shape := ⟨3, ![1, 256, 64]⟩
abbrev S256x64 : Shape := ⟨2, ![256, 64]⟩
abbrev S8x2x128x16x64 : Shape := ⟨5, ![8, 2, 128, 16, 64]⟩
abbrev S8x2x127x16x64 : Shape := ⟨5, ![8, 2, 127, 16, 64]⟩
abbrev S8x2x1x16x64 : Shape := ⟨5, ![8, 2, 1, 16, 64]⟩
abbrev S8x2x128x32x64 : Shape := ⟨5, ![8, 2, 128, 32, 64]⟩
abbrev S1x1x1x32x64 : Shape := ⟨5, ![1, 1, 1, 32, 64]⟩
abbrev S8x2x128x2048 : Shape := ⟨4, ![8, 2, 128, 2048]⟩
abbrev S8x2x128x256 : Shape := ⟨4, ![8, 2, 128, 256]⟩
abbrev S_ : Shape := ⟨0, ![]⟩
abbrev S8x2x128x64 : Shape := ⟨4, ![8, 2, 128, 64]⟩
abbrev S128x64 : Shape := ⟨2, ![128, 64]⟩
abbrev S8x2x128x128 : Shape := ⟨4, ![8, 2, 128, 128]⟩
abbrev S8x2x64x128 : Shape := ⟨4, ![8, 2, 64, 128]⟩

abbrev nBuf : Space → Nat
  | .hbm => 90
  | .vmem => 0
  | .smem => 0
  | _ => 0

abbrev bufTy : (tb : Table) → Fin (tcTables nBuf tb) → BufTy
  | .hbm, ⟨0, _⟩ => ⟨S8x36x2048x64, .f32⟩
  | .hbm, ⟨1, _⟩ => ⟨S4x32x64, .f32⟩
  | .hbm, ⟨2, _⟩ => ⟨S4x2048x256, .f32⟩
  | .hbm, ⟨3, _⟩ => ⟨S4x256x64, .f32⟩
  | .hbm, ⟨4, _⟩ => ⟨S4x32x64, .f32⟩
  | .hbm, ⟨5, _⟩ => ⟨S4x2048x256, .f32⟩
  | .hbm, ⟨6, _⟩ => ⟨S4x256x64, .f32⟩
  | .hbm, ⟨7, _⟩ => ⟨S8x2x2048x64, .f32⟩
  | .hbm, ⟨8, _⟩ => ⟨S1x32x64, .f32⟩
  | .hbm, ⟨9, _⟩ => ⟨S32x64, .f32⟩
  | .hbm, ⟨10, _⟩ => ⟨S1x2048x256, .f32⟩
  | .hbm, ⟨11, _⟩ => ⟨S2048x256, .f32⟩
  | .hbm, ⟨12, _⟩ => ⟨S1x256x64, .f32⟩
  | .hbm, ⟨13, _⟩ => ⟨S256x64, .f32⟩
  | .hbm, ⟨14, _⟩ => ⟨S8x2x128x16x64, .f32⟩
  | .hbm, ⟨15, _⟩ => ⟨S8x2x127x16x64, .f32⟩
  | .hbm, ⟨16, _⟩ => ⟨S8x2x1x16x64, .f32⟩
  | .hbm, ⟨17, _⟩ => ⟨S8x2x128x16x64, .f32⟩
  | .hbm, ⟨18, _⟩ => ⟨S8x2x128x32x64, .f32⟩
  | .hbm, ⟨19, _⟩ => ⟨S1x1x1x32x64, .f32⟩
  | .hbm, ⟨20, _⟩ => ⟨S8x2x128x32x64, .f32⟩
  | .hbm, ⟨21, _⟩ => ⟨S8x2x128x32x64, .f32⟩
  | .hbm, ⟨22, _⟩ => ⟨S8x2x128x2048, .f32⟩
  | .hbm, ⟨23, _⟩ => ⟨S8x2x128x256, .f32⟩
  | .hbm, ⟨24, _⟩ => ⟨S8x2x128x256, .f32⟩
  | .hbm, ⟨25, _⟩ => ⟨S8x2x128x256, .f32⟩
  | .hbm, ⟨26, _⟩ => ⟨S_, .f32⟩
  | .hbm, ⟨27, _⟩ => ⟨S8x2x128x256, .f32⟩
  | .hbm, ⟨28, _⟩ => ⟨S8x2x128x256, .f32⟩
  | .hbm, ⟨29, _⟩ => ⟨S_, .f32⟩
  | .hbm, ⟨30, _⟩ => ⟨S8x2x128x256, .f32⟩
  | .hbm, ⟨31, _⟩ => ⟨S8x2x128x256, .f32⟩
  | .hbm, ⟨32, _⟩ => ⟨S8x2x128x256, .f32⟩
  | .hbm, ⟨33, _⟩ => ⟨S8x2x128x64, .f32⟩
  | .hbm, ⟨34, _⟩ => ⟨S8x2x2048x64, .f32⟩
  | .hbm, ⟨35, _⟩ => ⟨S1x32x64, .f32⟩
  | .hbm, ⟨36, _⟩ => ⟨S32x64, .f32⟩
  | .hbm, ⟨37, _⟩ => ⟨S1x2048x256, .f32⟩
  | .hbm, ⟨38, _⟩ => ⟨S2048x256, .f32⟩
  | .hbm, ⟨39, _⟩ => ⟨S1x256x64, .f32⟩
  | .hbm, ⟨40, _⟩ => ⟨S256x64, .f32⟩
  | .hbm, ⟨41, _⟩ => ⟨S8x2x128x16x64, .f32⟩
  | .hbm, ⟨42, _⟩ => ⟨S8x2x127x16x64, .f32⟩
  | .hbm, ⟨43, _⟩ => ⟨S8x2x1x16x64, .f32⟩
  | .hbm, ⟨44, _⟩ => ⟨S8x2x128x16x64, .f32⟩
  | .hbm, ⟨45, _⟩ => ⟨S8x2x128x32x64, .f32⟩
  | .hbm, ⟨46, _⟩ => ⟨S1x1x1x32x64, .f32⟩
  | .hbm, ⟨47, _⟩ => ⟨S8x2x128x32x64, .f32⟩
  | .hbm, ⟨48, _⟩ => ⟨S8x2x128x32x64, .f32⟩
  | .hbm, ⟨49, _⟩ => ⟨S8x2x128x2048, .f32⟩
  | .hbm, ⟨50, _⟩ => ⟨S8x2x128x256, .f32⟩
  | .hbm, ⟨51, _⟩ => ⟨S8x2x128x256, .f32⟩
  | .hbm, ⟨52, _⟩ => ⟨S8x2x128x256, .f32⟩
  | .hbm, ⟨53, _⟩ => ⟨S_, .f32⟩
  | .hbm, ⟨54, _⟩ => ⟨S8x2x128x256, .f32⟩
  | .hbm, ⟨55, _⟩ => ⟨S8x2x128x256, .f32⟩
  | .hbm, ⟨56, _⟩ => ⟨S_, .f32⟩
  | .hbm, ⟨57, _⟩ => ⟨S8x2x128x256, .f32⟩
  | .hbm, ⟨58, _⟩ => ⟨S8x2x128x256, .f32⟩
  | .hbm, ⟨59, _⟩ => ⟨S8x2x128x256, .f32⟩
  | .hbm, ⟨60, _⟩ => ⟨S8x2x128x64, .f32⟩
  | .hbm, ⟨61, _⟩ => ⟨S128x64, .i32⟩
  | .hbm, ⟨62, _⟩ => ⟨S_, .i32⟩
  | .hbm, ⟨63, _⟩ => ⟨S128x64, .i32⟩
  | .hbm, ⟨64, _⟩ => ⟨S128x64, .i32⟩
  | .hbm, ⟨65, _⟩ => ⟨S128x64, .i32⟩
  | .hbm, ⟨66, _⟩ => ⟨S_, .i32⟩
  | .hbm, ⟨67, _⟩ => ⟨S128x64, .i32⟩
  | .hbm, ⟨68, _⟩ => ⟨S128x64, .i32⟩
  | .hbm, ⟨69, _⟩ => ⟨S128x64, .f32⟩
  | .hbm, ⟨70, _⟩ => ⟨S_, .i32⟩
  | .hbm, ⟨71, _⟩ => ⟨S128x64, .i32⟩
  | .hbm, ⟨72, _⟩ => ⟨S128x64, .i32⟩
  | .hbm, ⟨73, _⟩ => ⟨S128x64, .f32⟩
  | .hbm, ⟨74, _⟩ => ⟨S_, .i32⟩
  | .hbm, ⟨75, _⟩ => ⟨S128x64, .i32⟩
  | .hbm, ⟨76, _⟩ => ⟨S128x64, .i1⟩
  | .hbm, ⟨77, _⟩ => ⟨S_, .i32⟩
  | .hbm, ⟨78, _⟩ => ⟨S128x64, .i32⟩
  | .hbm, ⟨79, _⟩ => ⟨S128x64, .i1⟩
  | .hbm, ⟨80, _⟩ => ⟨S_, .f32⟩
  | .hbm, ⟨81, _⟩ => ⟨S_, .f32⟩
  | .hbm, ⟨82, _⟩ => ⟨S128x64, .f32⟩
  | .hbm, ⟨83, _⟩ => ⟨S128x64, .f32⟩
  | .hbm, ⟨84, _⟩ => ⟨S128x64, .f32⟩
  | .hbm, ⟨85, _⟩ => ⟨S8x2x128x64, .f32⟩
  | .hbm, ⟨86, _⟩ => ⟨S8x2x128x128, .f32⟩
  | .hbm, ⟨87, _⟩ => ⟨S8x2x128x128, .bf16⟩
  | .hbm, ⟨88, _⟩ => ⟨S8x2x64x128, .f32⟩
  | .hbm, ⟨89, _⟩ => ⟨S8x2x64x128, .bf16⟩
  | _, _ => ⟨S8x36x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call2_v0 : Ref sig .tc := ⟨.hbm, 42, rfl⟩
abbrev main_call2_v1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call3_v0 : Ref sig .tc := ⟨.hbm, 51, rfl⟩
abbrev main_call3_v1 : Ref sig .tc := ⟨.hbm, 52, rfl⟩
abbrev main_call3_cst : Ref sig .tc := ⟨.hbm, 53, rfl⟩
abbrev main_call3_v2 : Ref sig .tc := ⟨.hbm, 54, rfl⟩
abbrev main_call3_v3 : Ref sig .tc := ⟨.hbm, 55, rfl⟩
abbrev main_call3_cst_0 : Ref sig .tc := ⟨.hbm, 56, rfl⟩
abbrev main_call3_v4 : Ref sig .tc := ⟨.hbm, 57, rfl⟩
abbrev main_call3_v5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_2 : Ref sig .tc := ⟨.hbm, 74, rfl⟩
abbrev main_v44 : Ref sig .tc := ⟨.hbm, 75, rfl⟩
abbrev main_v45 : Ref sig .tc := ⟨.hbm, 76, rfl⟩
abbrev main_c_3 : Ref sig .tc := ⟨.hbm, 77, rfl⟩
abbrev main_v46 : Ref sig .tc := ⟨.hbm, 78, rfl⟩
abbrev main_v47 : Ref sig .tc := ⟨.hbm, 79, rfl⟩
abbrev main_cst : Ref sig .tc := ⟨.hbm, 80, rfl⟩
abbrev main_call4_v0 : Ref sig .tc := ⟨.hbm, 81, rfl⟩
abbrev main_call4_v1 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩

abbrev nD : Nat := 1
abbrev τ : Topo := Topo.v7x

variable {F : FTy → Type} [FloatOps F]
-- ==== Proof.Words.lean ====
/- The real numbers that the programs' constant words stand for. -/
module

public import Idealize.ShloMosaic.PureOps.Ideal

@[expose] public section

noncomputable section

open Idealize.ShloMosaic

namespace Cert.Words

/-- The f32 pattern of two, -/
theorem two_bits : Ideal.ofBits .f32 0x40000000#32 = ((2 : ℝ) : EReal) := by
  simp [Ideal.ofBits, Ideal.ieee, -EReal.coe_mul]; norm_num

/-- of minus eight, -/
theorem neg_eight_bits : Ideal.ofBits .f32 0xC1000000#32 = ((-8 : ℝ) : EReal) := by
  simp [Ideal.ofBits, Ideal.ieee, -EReal.coe_mul, -EReal.coe_neg]; norm_num

/-- of sixty-four, -/
theorem sixty_four_bits : Ideal.ofBits .f32 0x42800000#32 = ((64 : ℝ) : EReal) := by
  simp [Ideal.ofBits, Ideal.ieee, -EReal.coe_mul]; norm_num

/-- of its reciprocal, -/
theorem inv_sixty_four_bits : Ideal.ofBits .f32 0x3C800000#32 = ((1 / 64 : ℝ) : EReal) := by
  simp [Ideal.ofBits, Ideal.ieee, -EReal.coe_mul]; norm_num

/-- and of the positive number that the normalizations add. -/
theorem eps_bits : ∃ e : ℝ, 0 < e ∧ Ideal.ofBits .f32 0x358637BD#32 = (e : EReal) := by
  refine ⟨_, ?_, by simp [Ideal.ofBits, Ideal.ieee, -EReal.coe_mul]; rfl⟩
  norm_num

end Cert.Words
end
-- ==== Proof.LruSpec.lean ====
/- The gated linear recurrence as mathematics: the causal convolution of four taps, the two block gates, the decay, the
   input's factor, the recurrence over the positions and the gated output, over the extended reals. -/
module

public import proofs.«01_k».proof.Proof.Words
public import Idealize.ShloMosaic.Lib.IdealHost

@[expose] public section

noncomputable section

open Idealize.ShloMosaic Cert.Words

namespace Cert.Lru

/-- The layer's operands: the recurrent and the gate branch, the convolution's taps and bias, each gate's blocks and bias,
    and the decay's parameter. -/
structure Args where
  x : Fin 8 → Fin 2048 → Fin 256 → EReal
  g : Fin 8 → Fin 2048 → Fin 256 → EReal
  w : Fin 4 → Fin 256 → EReal
  b : Fin 256 → EReal
  wa : Fin 4 → Fin 64 → Fin 64 → EReal
  ba : Fin 4 → Fin 64 → EReal
  wx : Fin 4 → Fin 64 → Fin 64 → EReal
  bx : Fin 4 → Fin 64 → EReal
  lam : Fin 256 → EReal

variable (A : Args)

/-- The recurrent branch `d` positions back, zero before the start. -/
def tap (t : Fin 8) (s : Fin 2048) (j : Fin 256) (d : ℕ) : EReal :=
  if h : d ≤ s.val then A.x t ⟨s.val - d, by omega⟩ j else 0

theorem tap_zero (t : Fin 8) (s : Fin 2048) (j : Fin 256) : tap A t s j 0 = A.x t s j := by
  rw [tap, dif_pos (Nat.zero_le _)]
  rfl

/-- The causal convolution. -/
def conv (t : Fin 8) (s : Fin 2048) (j : Fin 256) : EReal :=
  A.b j + tap A t s j 3 * A.w 0 j + tap A t s j 2 * A.w 1 j + tap A t s j 1 * A.w 2 j + tap A t s j 0 * A.w 3 j

/-- The block a channel lies in, -/
def blk (j : Fin 256) : Fin 4 := ⟨j.val / 64, by omega⟩
/-- its place there, -/
def off (j : Fin 256) : Fin 64 := ⟨j.val % 64, by omega⟩
/-- and the channel at a place of a block. -/
def chan (n : Fin 4) (d : Fin 64) : Fin 256 := ⟨n.val * 64 + d.val, by omega⟩

/-- A gate: the sigmoid of the convolution through the channel's block. -/
def gate (w : Fin 4 → Fin 64 → Fin 64 → EReal) (b : Fin 4 → Fin 64 → EReal) (t : Fin 8) (s : Fin 2048) (j : Fin 256) : EReal :=
  Ideal.div 1 (1 + Ideal.exp (-(∑ d : Fin 64, w (blk j) d (off j) * conv A t s (chan (blk j) d) + b (blk j) (off j))))

/-- The softplus of the parameter's negative. -/
def soft (j : Fin 256) : EReal := max (-A.lam j) 0 + Ideal.log1p (Ideal.exp (-FloatOps.absf (F := Ideal) (φ := .f32) (-A.lam j)))

/-- The logarithm of the decay, -/
def logA (t : Fin 8) (s : Fin 2048) (j : Fin 256) : EReal :=
  Ideal.ofBits .f32 0xC1000000#32 * gate A A.wa A.ba t s j * soft A j

/-- the decay, -/
def dec (t : Fin 8) (s : Fin 2048) (j : Fin 256) : EReal := Ideal.exp (logA A t s j)

/-- and the gated input times `√(1 - decay²)`. -/
def inp (t : Fin 8) (s : Fin 2048) (j : Fin 256) : EReal :=
  Ideal.sqrt (-(Ideal.exp (Ideal.ofBits .f32 0x40000000#32 * logA A t s j) - 1)) * (gate A A.wx A.bx t s j * conv A t s j)

/-- The recurrence's state after `k` positions. -/
def state (t : Fin 8) : ℕ → Fin 256 → EReal
  | 0, _ => 0
  | k + 1, j => if h : k < 2048 then dec A t ⟨k, h⟩ j * state t k j + inp A t ⟨k, h⟩ j else 0

/-- The gate branch's activation, by the tanh form. -/
def act (g : EReal) : EReal :=
  g * (Ideal.ofBits .f32 0x3F000000#32 * (1 + Ideal.tanh (Ideal.ofBits .f32 0x3F4C422A#32 *
    (g + Ideal.ofBits .f32 0x3D372713#32 * (g * g * g)))))

/-- The layer's output. -/
def out (t : Fin 8) (s : Fin 2048) (j : Fin 256) : EReal := state A t (s.val + 1) j * act (A.g t s j)

/-- `-tanh x · (e^x · e^x + 1)` is `1 - e^(2x)`, at every extended real. -/
theorem tanh_exp (x : EReal) :
    (0 - Ideal.tanh x) * (Ideal.exp x * Ideal.exp x + 1) = -(Ideal.exp (Ideal.ofBits .f32 0x40000000#32 * x) - 1) := by
  rw [two_bits]
  induction x with
  | bot =>
    rw [EReal.coe_mul_bot_of_pos (by norm_num), show Ideal.exp ⊥ = 0 from rfl, show Ideal.tanh ⊥ = -1 from rfl]
    simp
  | top =>
    rw [EReal.coe_mul_top_of_pos (by norm_num), show Ideal.exp ⊤ = ⊤ from rfl, show Ideal.tanh ⊤ = 1 from rfl,
      zero_sub, EReal.top_mul_top, show (⊤ : EReal) + 1 = ⊤ from rfl, show (⊤ : EReal) - 1 = ⊤ from rfl, neg_mul, one_mul]
  | coe r =>
    rw [← EReal.coe_mul, show Ideal.exp (r : EReal) = (Real.exp r : EReal) from rfl,
      show Ideal.exp ((2 * r : ℝ) : EReal) = (Real.exp (2 * r) : EReal) from rfl,
      show Ideal.tanh (r : EReal) = (Real.tanh r : EReal) from rfl]
    have h : (0 - Real.tanh r) * (Real.exp r * Real.exp r + 1) = -(Real.exp (2 * r) - 1) := by
      have h2 : Real.exp (2 * r) = Real.exp r * Real.exp r := by rw [two_mul, Real.exp_add]
      have hm : Real.exp r * Real.exp (-r) = 1 := by rw [← Real.exp_add, add_neg_cancel, Real.exp_zero]
      have hp := Real.exp_pos r
      have hn := Real.exp_pos (-r)
      rw [h2, Real.tanh_eq_sinh_div_cosh, Real.sinh_eq, Real.cosh_eq]
      field_simp
      nlinarith [hm]
    exact_mod_cast congrArg (fun y : ℝ => (y : EReal)) h

/-- An exponential is not negative. -/
theorem exp_nonneg (x : EReal) : 0 ≤ Ideal.exp x := by
  induction x with
  | bot => exact le_refl _
  | top => exact le_top
  | coe r => exact EReal.coe_nonneg.mpr (Real.exp_pos r).le

/-- An exponential is infinite at infinity only. -/
theorem exp_ne_top {x : EReal} (h : x ≠ ⊤) : Ideal.exp x ≠ ⊤ := by
  induction x with
  | bot => exact EReal.zero_ne_top
  | top => exact absurd rfl h
  | coe r => exact EReal.coe_ne_top _

/-- A sigmoid is not negative. -/
theorem gate_nonneg (w : Fin 4 → Fin 64 → Fin 64 → EReal) (b : Fin 4 → Fin 64 → EReal) (t : Fin 8) (s : Fin 2048) (j : Fin 256) :
    0 ≤ gate A w b t s j := by
  rw [gate]
  generalize -(_ : EReal) = z
  have h : (0 : EReal) < 1 + Ideal.exp z :=
    lt_of_lt_of_le zero_lt_one (le_add_of_nonneg_right (exp_nonneg z))
  rw [Ideal.div, if_neg h.ne', one_mul]
  exact EReal.inv_nonneg_of_nonneg h.le

/-- The logarithm of one and more is not negative. -/
theorem log1p_nonneg {x : EReal} (h : 0 ≤ x) : 0 ≤ Ideal.log1p x := by
  rw [Ideal.log1p]
  induction x with
  | bot => exact absurd h (by simp)
  | top => exact le_top
  | coe r =>
    have hr : 0 ≤ r := EReal.coe_nonneg.mp h
    rw [show (1 : EReal) + (r : EReal) = ((1 + r : ℝ) : EReal) by norm_cast,
      show Ideal.log ((1 + r : ℝ) : EReal) = if 1 + r ≤ 0 then ⊥ else (Real.log (1 + r) : EReal) from rfl, if_neg (by linarith)]
    exact EReal.coe_nonneg.mpr (Real.log_nonneg (by linarith))

/-- The softplus is not negative. -/
theorem soft_nonneg (j : Fin 256) : 0 ≤ soft A j :=
  add_nonneg (le_max_right _ _) (log1p_nonneg (exp_nonneg _))

/-- The decay is finite and not negative: its logarithm is at most zero. -/
theorem dec_fine (t : Fin 8) (s : Fin 2048) (j : Fin 256) : 0 ≤ dec A t s j ∧ dec A t s j ≠ ⊤ := by
  refine ⟨exp_nonneg _, exp_ne_top (ne_of_lt (lt_of_le_of_lt ?_ EReal.zero_lt_top))⟩
  rw [logA, neg_eight_bits]
  refine EReal.mul_nonpos_iff.mpr (.inr ⟨EReal.mul_nonpos_iff.mpr (.inr ⟨?_, gate_nonneg A _ _ t s j⟩), soft_nonneg A j⟩)
  exact EReal.coe_nonpos.mpr (by norm_num)

end Cert.Lru
-- ==== Proof.LruRef.lean ====
/- The reference of the recurrence: the loop's entry, its invariant over the positions, and the result. -/
module

public import proofs.«01_k».proof.Proof.Gen.ReferenceIdeal.Run
public import proofs.«01_k».proof.Proof.LruSpec
public import Idealize.ShloMosaic.Lib.Pipeline.ValueKit
public import Idealize.ShloMosaic.Lib.IdealHost
public import Idealize.ShloMosaic.Lib.DynamicIndex
public import Idealize.ShloMosaic.Lib.WordCmp

@[expose] public section

set_option maxRecDepth 16384

noncomputable section

open Idealize.ShloMosaic Idealize.ShloMosaic.TcCoe Idealize.ShloMosaic.StableHlo

namespace Cert.ReferenceIdeal.Lru

open Cert.ReferenceIdeal Cert.ReferenceIdeal.Gen Cert.ReferenceIdeal.Value Cert.Lru

variable (V : Valuation τ sig (Elt Ideal))

/-- The values that one stretch hands to the next, as arrays of extended reals. -/
abbrev vX : S8x2051x256.Idx → EReal := V (Proc.devRef .tc main_v0)
abbrev vC : S8x2048x256.Idx → EReal := V (Proc.devRef .tc main_v30)
abbrev vI : S8x2048x256.Idx → EReal := V (Proc.devRef .tc main_v55)
abbrev vR : S8x2048x256.Idx → EReal := V (Proc.devRef .tc main_v57)
abbrev vN : S256.Idx → EReal := V (Proc.devRef .tc main_v58)
abbrev vS : S256.Idx → EReal := V (Proc.devRef .tc main_v59)
abbrev vA : S2048x8x256.Idx → EReal := V (Proc.devRef .tc main_v75_0)
abbrev vU : S2048x8x256.Idx → EReal := V (Proc.devRef .tc main_v75_1)
abbrev vH : S8x256.Idx → EReal := V (Proc.devRef .tc main_v75_3)
abbrev vO : S2048x8x256.Idx → EReal := V (Proc.devRef .tc main_v75_4)
abbrev a0 : S8x2048x256.Idx → EReal := V (Proc.devRef .tc main_arg0)
abbrev a1 : S8x2048x256.Idx → EReal := V (Proc.devRef .tc main_arg1)
abbrev a2 : S4x256.Idx → EReal := V (Proc.devRef .tc main_arg2)
abbrev a3 : S256.Idx → EReal := V (Proc.devRef .tc main_arg3)
abbrev a4 : S4x64x64.Idx → EReal := V (Proc.devRef .tc main_arg4)
abbrev a5 : S4x64.Idx → EReal := V (Proc.devRef .tc main_arg5)
abbrev a6 : S4x64x64.Idx → EReal := V (Proc.devRef .tc main_arg6)
abbrev a7 : S4x64.Idx → EReal := V (Proc.devRef .tc main_arg7)
abbrev a8 : S256.Idx → EReal := V (Proc.devRef .tc main_arg8)

/-- The operands, read off contents that hold them. -/
def args : Args where
  x t s j := a0 V (ix3 t s j)
  g t s j := a1 V (ix3 t s j)
  w n j := a2 V (ix2 n j)
  b j := a3 V (ix1 j)
  wa n d e := a4 V (ix3 n d e)
  ba n e := a5 V (ix2 n e)
  wx n d e := a6 V (ix3 n d e)
  bx n e := a7 V (ix2 n e)
  lam j := a8 V (ix1 j)

/-! ## The stretches before the loop, each from any contents -/

theorem start (i : S8x256.Idx) : vH (after hostOps0_4 V) i = 0 := by
  after_reads_simp
  simp only [id_eq]
  pointwise []

theorem decay (i : S2048x8x256.Idx) :
    vA (after hostOps0_4 V) i = Ideal.exp (vR V (ix3 (i 1) (i 0) (i 2)) * vS V (ix1 (i 2))) := by
  after_reads_simp
  simp only [id_eq]
  pointwise []

theorem input (i : S2048x8x256.Idx) :
    vU (after hostOps0_4 V) i
      = Ideal.sqrt (-(Ideal.exp (Ideal.ofBits .f32 0x40000000#32 * (vR V (ix3 (i 1) (i 0) (i 2)) * vS V (ix1 (i 2)))) - 1))
        * (vI V (ix3 (i 1) (i 0) (i 2)) * vC V (ix3 (i 1) (i 0) (i 2))) := by
  after_reads_simp
  simp only [id_eq]
  pointwise []

theorem softplus (j : Fin 256) :
    vS (after hostOps0_3 V) (ix1 j)
      = max (vN V (ix1 j)) 0 + Ideal.log1p (Ideal.exp (-FloatOps.absf (F := Ideal) (φ := .f32) (vN V (ix1 j)))) := by
  after_reads_simp
  simp only [TRef.toBuf, TRef.ofBuf, cast_eq]
  pointwise []
  rw [if_neg (fun h => h rfl)]

theorem padded (i : S8x2051x256.Idx) (h0 : V (Proc.devRef .tc main_c) = fun _ => (0#32 : BitVec 32)) :
    vX (after hostOps0_1 V) i
      = if h : 3 ≤ (i 1).val then
          a0 V (ix3 (i 0) (⟨(i 1).val - 3, by have : (i 1).val < 2051 := (i 1).isLt; omega⟩ : Fin 2048) (i 2))
        else 0 := by
  have hi : (i 1).val < 2051 := (i 1).isLt
  after_reads_simp
  simp only [TRef.toBuf, TRef.ofBuf, cast_eq]
  pointwise []
  by_cases h : 3 ≤ (i 1).val
  · rw [dif_pos ⟨h, by omega⟩, dif_pos h]
  · rw [dif_neg (fun h' => h h'.1), dif_neg h, h0]
    simp [FloatOps.sitofp]

/-- The convolution off the padded branch. -/
def convP (t : Fin 8) (s : Fin 2048) (j : Fin 256) : EReal :=
  a3 V (ix1 j) + vX V (ix3 t (⟨s.val, by omega⟩ : Fin 2051) j) * a2 V (ix2 (0 : Fin 4) j)
    + vX V (ix3 t (⟨1 + s.val, by omega⟩ : Fin 2051) j) * a2 V (ix2 (1 : Fin 4) j)
    + vX V (ix3 t (⟨2 + s.val, by omega⟩ : Fin 2051) j) * a2 V (ix2 (2 : Fin 4) j)
    + vX V (ix3 t (⟨3 + s.val, by omega⟩ : Fin 2051) j) * a2 V (ix2 (3 : Fin 4) j)

theorem convolved (t : Fin 8) (s : Fin 2048) (j : Fin 256) : vC (after hostOps0_2 V) (ix3 t s j) = convP V t s j := by
  after_reads_simp
  pointwise [convP]

theorem rec_gate (t : Fin 8) (s : Fin 2048) (j : Fin 256) :
    vR (after hostOps0_2 V) (ix3 t s j) = Ideal.ofBits .f32 0xC1000000#32 * Ideal.div 1 (1 + Ideal.exp (-(∑ d : Fin 64,
      a4 V (ix3 (blk j) d (off j)) * convP V t s (chan (blk j) d) + a5 V (ix2 (blk j) (off j))))) := by
  after_reads_simp
  pointwise [convP, blk, off, chan]

theorem in_gate (t : Fin 8) (s : Fin 2048) (j : Fin 256) :
    vI (after hostOps0_2 V) (ix3 t s j) = Ideal.div 1 (1 + Ideal.exp (-(∑ d : Fin 64,
      a6 V (ix3 (blk j) d (off j)) * convP V t s (chan (blk j) d) + a7 V (ix2 (blk j) (off j))))) := by
  after_reads_simp
  pointwise [convP, blk, off, chan]

theorem negated (j : Fin 256) : vN (after hostOps0_2 V) (ix1 j) = -a8 V (ix1 j) := by
  after_reads_simp
  pointwise []

theorem zero_first : after hostOps0 V (Proc.devRef .tc main_c) = fun _ => (0#32 : BitVec 32) := by
  after_reads_simp
  rfl

/-! ## The loop's entry -/

/-- All stretches before the loop, one after the other. -/
abbrev pre : Valuation τ sig (Elt Ideal) :=
  after hostOps0_4 (after hostOps0_3 (after hostOps0_2 (after hostOps0_1 (after hostOps0 V))))

theorem convP_eq (t : Fin 8) (s : Fin 2048) (j : Fin 256) :
    convP (after hostOps0_1 (after hostOps0 V)) t s j = conv (args V) t s j := by
  have hx (d : ℕ) (h : d + s.val < 2051) (hd : d ≤ 3) : vX (after hostOps0_1 (after hostOps0 V)) (ix3 t (⟨d + s.val, h⟩ : Fin 2051) j)
      = tap (args V) t s j (3 - d) := by
    rw [padded _ _ (zero_first V)]
    have hk : a0 (after hostOps0 V) = a0 V := keep_main_arg0_hostOps0 V
    rw [hk]
    by_cases h3 : 3 ≤ d + s.val
    · rw [dif_pos (show 3 ≤ ((ix3 t (⟨d + s.val, h⟩ : Fin 2051) j : S8x2051x256.Idx) 1).val from h3), tap, dif_pos (by omega)]
      show a0 V (ix3 t (⟨d + s.val - 3, _⟩ : Fin 2048) j) = a0 V (ix3 t (⟨s.val - (3 - d), _⟩ : Fin 2048) j)
      have : d + s.val - 3 = s.val - (3 - d) := by omega
      simp only [this]
    · rw [dif_neg (show ¬ 3 ≤ ((ix3 t (⟨d + s.val, h⟩ : Fin 2051) j : S8x2051x256.Idx) 1).val from h3), tap, dif_neg (by omega)]
  have h2 : a2 (after hostOps0_1 (after hostOps0 V)) = a2 V :=
    (keep_main_arg2_hostOps0_1 _).trans (keep_main_arg2_hostOps0 V)
  have h3 : a3 (after hostOps0_1 (after hostOps0 V)) = a3 V :=
    (keep_main_arg3_hostOps0_1 _).trans (keep_main_arg3_hostOps0 V)
  have hx0 := hx 0 (by omega) (by omega)
  simp only [zero_add] at hx0
  rw [convP, hx0, hx 1 (by omega) (by omega), hx 2 (by omega) (by omega), hx 3 (by omega) (by omega), h2, h3]
  rfl

theorem entry_log (t : Fin 8) (s : Fin 2048) (j : Fin 256) :
    vR (after hostOps0_3 (after hostOps0_2 (after hostOps0_1 (after hostOps0 V)))) (ix3 t s j)
      * vS (after hostOps0_3 (after hostOps0_2 (after hostOps0_1 (after hostOps0 V)))) (ix1 j) = logA (args V) t s j := by
  have hk : vR (after hostOps0_3 (after hostOps0_2 (after hostOps0_1 (after hostOps0 V))))
      = vR (after hostOps0_2 (after hostOps0_1 (after hostOps0 V))) :=
    after_of_writes_sub hostOps0_3 _ hostOps0_3_writes (by decide +kernel)
  have h4 : a4 (after hostOps0_1 (after hostOps0 V)) = a4 V :=
    (keep_main_arg4_hostOps0_1 _).trans (keep_main_arg4_hostOps0 V)
  have h5 : a5 (after hostOps0_1 (after hostOps0 V)) = a5 V :=
    (keep_main_arg5_hostOps0_1 _).trans (keep_main_arg5_hostOps0 V)
  have h8 : a8 (after hostOps0_1 (after hostOps0 V)) = a8 V :=
    (keep_main_arg8_hostOps0_1 _).trans (keep_main_arg8_hostOps0 V)
  rw [hk, softplus, negated, rec_gate, h4, h5, h8]
  simp only [convP_eq]
  rfl

theorem entry_decay (t : Fin 8) (s : Fin 2048) (j : Fin 256) : vA (pre V) (ix3 s t j) = dec (args V) t s j := by
  rw [decay]
  exact congrArg Ideal.exp (entry_log V t s j)

theorem entry_input (t : Fin 8) (s : Fin 2048) (j : Fin 256) : vU (pre V) (ix3 s t j) = inp (args V) t s j := by
  have hi : vI (after hostOps0_3 (after hostOps0_2 (after hostOps0_1 (after hostOps0 V))))
      = vI (after hostOps0_2 (after hostOps0_1 (after hostOps0 V))) :=
    after_of_writes_sub hostOps0_3 _ hostOps0_3_writes (by decide +kernel)
  have hc : vC (after hostOps0_3 (after hostOps0_2 (after hostOps0_1 (after hostOps0 V))))
      = vC (after hostOps0_2 (after hostOps0_1 (after hostOps0 V))) :=
    after_of_writes_sub hostOps0_3 _ hostOps0_3_writes (by decide +kernel)
  have h6 : a6 (after hostOps0_1 (after hostOps0 V)) = a6 V :=
    (keep_main_arg6_hostOps0_1 _).trans (keep_main_arg6_hostOps0 V)
  have h7 : a7 (after hostOps0_1 (after hostOps0 V)) = a7 V :=
    (keep_main_arg7_hostOps0_1 _).trans (keep_main_arg7_hostOps0 V)
  rw [input]
  show Ideal.sqrt (-(Ideal.exp (_ * (vR _ (ix3 t s j) * vS _ (ix1 j))) - 1)) * (vI _ (ix3 t s j) * vC _ (ix3 t s j)) = _
  rw [entry_log, hi, hc, in_gate, convolved, h6, h7]
  simp only [convP_eq]
  rfl

/-! ## The loop -/

variable (E : Valuation τ sig (Elt Ideal))

/-- The start of the block at the loop's counter. -/
def at_ (E : Valuation τ sig (Elt Ideal)) : Fin 3 → Int := fun k =>
  ((![E (Proc.devRef .tc main_v75_2), constantI S_ 32 0#32, constantI S_ 32 0#32] : Fin 3 → S_.Idx → BitVec 32) k (Shape.Idx.first h_S_)).toInt

theorem at_eq (k : ℕ) (hk : k < 2048) (hc : E (Proc.devRef .tc main_v75_2) = fun _ => BitVec.ofNat 32 k) (a : Fin 3) :
    at_ E a = ((![k, 0, 0] : Fin 3 → ℕ) a : Int) := by
  rw [at_, hc]
  fin_cases a
  · exact toInt_ofNat_of_lt (by omega)
  · rfl
  · rfl

theorem slices_at (k : ℕ) (hk : k < 2048) : S2048x8x256.Slices ![k, 0, 0] S1x8x256 :=
  ⟨rfl, fun a => by fin_cases a <;> simp [S2048x8x256, S1x8x256] <;> omega⟩

/-- The loop's read of one position, -/
theorem read_at (X : S2048x8x256.Idx → EReal) (k : ℕ) (hk : k < 2048)
    (hc : E (Proc.devRef .tc main_v75_2) = fun _ => BitVec.ofNat 32 k) (t : Fin 8) (j : Fin 256) :
    shapeCast S8x256 (Host.dynamicSlice S1x8x256 X (at_ E) sliceFits_S2048x8x256_S1x8x256) shapeCasts_S1x8x256_S8x256 (ix2 t j)
      = X (ix3 (⟨k, hk⟩ : Fin 2048) t j) := by
  rw [Host.dynamicSlice_eq_extractStridedSlice S1x8x256 X (at_ E) ![k, 0, 0] _ (slices_at k hk) (at_eq E k hk hc)]
  pointwise []

/-- and its write of one. -/
theorem write_at (X : S2048x8x256.Idx → EReal) (Y : S8x256.Idx → EReal) (k : ℕ) (hk : k < 2048)
    (hc : E (Proc.devRef .tc main_v75_2) = fun _ => BitVec.ofNat 32 k) (s : Fin 2048) (t : Fin 8) (j : Fin 256) :
    Host.dynamicUpdateSlice X (broadcastInDim S1x8x256 ![1, 2] bcast_S8x256_S1x8x256_1_2 Y) (at_ E) updateFits_S2048x8x256_S1x8x256 (ix3 s t j)
      = if s.val = k then Y (ix2 t j) else X (ix3 s t j) := by
  rw [WordCmp.dynamicUpdateSlice_eq_update X _ (at_ E) _ ![k, 0, 0] (slices_at k hk) (at_eq E k hk hc)]
  pointwise []
  by_cases h : s.val = k
  · rw [dif_pos (by omega), if_pos h]
  · rw [dif_neg (by omega), if_neg h]

theorem step_state (k : ℕ) (hk : k < 2048) (hc : E (Proc.devRef .tc main_v75_2) = fun _ => BitVec.ofNat 32 k) (t : Fin 8) (j : Fin 256) :
    res_main_while0b_v94 E (ix2 t j) = vA E (ix3 (⟨k, hk⟩ : Fin 2048) t j) * vH E (ix2 t j) + vU E (ix3 (⟨k, hk⟩ : Fin 2048) t j) := by
  have ha := read_at E (vA E) k hk hc t j
  have hu := read_at E (vU E) k hk hc t j
  rw [← ha, ← hu]
  rfl

/-- After `k` positions the counter is `k`, the state the recurrence's, and the rows written so far its states. -/
theorem loop (k : ℕ) (hk : k ≤ 2048) :
    (STEP^[k] (pre V) (Proc.devRef .tc main_v75_2) = fun _ => BitVec.ofNat 32 k)
    ∧ vA (STEP^[k] (pre V)) = vA (pre V) ∧ vU (STEP^[k] (pre V)) = vU (pre V)
    ∧ (∀ t j, vH (STEP^[k] (pre V)) (ix2 t j) = state (args V) t k j)
    ∧ ∀ (s : Fin 2048) (t : Fin 8) (j : Fin 256), s.val < k → vO (STEP^[k] (pre V)) (ix3 s t j) = state (args V) t (s.val + 1) j := by
  induction k with
  | zero =>
    refine ⟨?_, rfl, rfl, fun t j => start _ _, fun s t j h => absurd h (by omega)⟩
    show after hostOps0_4 _ (Proc.devRef .tc main_v75_2) = _
    after_reads_simp
    rfl
  | succ k ih =>
    obtain ⟨hc, ha, hu, hh, ho⟩ := ih (by omega)
    rw [Function.iterate_succ_apply']
    generalize hE : STEP^[k] (pre V) = E at *
    have hs (t : Fin 8) (j : Fin 256) : res_main_while0b_v94 E (ix2 t j) = state (args V) t (k + 1) j := by
      rw [step_state E k hk hc t j, ha, hu, hh, entry_decay, entry_input, state, dif_pos (show k < 2048 from hk)]
    refine ⟨?_, ?_, ?_, ?_, ?_⟩
    · rw [STEP_main_v75_2, step_main_v75_2, hc]
      funext i
      show BitVec.ofNat 32 k + 1#32 = BitVec.ofNat 32 (k + 1)
      rw [BitVec.ofNat_add]
    · rw [← ha]; exact STEP_main_v75_0 E
    · rw [← hu]; exact STEP_main_v75_1 E
    · intro t j
      show STEP E (Proc.devRef .tc main_v75_3) (ix2 t j) = _
      rw [STEP_main_v75_3]
      exact hs t j
    · intro s t j h
      show STEP E (Proc.devRef .tc main_v75_4) (ix3 s t j) = _
      rw [STEP_main_v75_4]
      refine (write_at E (vO E) (res_main_while0b_v94 E) k hk hc s t j).trans ?_
      by_cases hsk : s.val = k
      · rw [if_pos hsk, hs, hsk]
      · rw [if_neg hsk, ho s t j (by omega)]

/-- The result is the layer's output. -/
theorem result (t : Fin 8) (s : Fin 2048) (j : Fin 256) (h1 : a1 (STEP^[2048] (pre V)) = a1 V) :
    out_main_v90 (STEP^[2048] (pre V)) (ix3 t s j) = out (args V) t s j := by
  have ho := (loop V 2048 le_rfl).2.2.2.2 s t j s.isLt
  generalize STEP^[2048] (pre V) = E at *
  have h : out_main_v90 E (ix3 t s j) = vO E (ix3 s t j) * act (a1 E (ix3 t s j)) := by
    pointwise [out_main_v90, act]
  rw [h, ho, h1]
  rfl

end Cert.ReferenceIdeal.Lru
-- ==== Proof.LruScan.lean ====
/- The scan of the recurrence kernel: eleven doubling steps over two pairs of padded buffers leave, in row `1024 + t`,
   the value of the recurrence `h t = a t * h (t - 1) + b t` at `t`. -/
module

public import proofs.«01_k».proof.Proof.Gen.KernelIdeal.Value
public import Idealize.ShloMosaic.Lib.Pipeline.ValueKit
public import Idealize.ShloMosaic.Lib.IdealHost

@[expose] public section

set_option maxRecDepth 16384

noncomputable section

open Idealize.ShloMosaic Idealize.ShloMosaic.TcCoe

namespace Cert.KernelIdeal.Scan

open Cert.KernelIdeal Cert.KernelIdeal.Gen

/-! ## The recurrence over a stretch of rows -/

/-- The product of the `L` factors that end at row `n`. -/
def prod (a : ℕ → EReal) : ℕ → ℕ → EReal
  | 0, _ => 1
  | L + 1, n => a n * prod a L (n - 1)

/-- The recurrence run over the `L` rows that end at row `n`, from zero. -/
def rec (a b : ℕ → EReal) : ℕ → ℕ → EReal
  | 0, _ => 0
  | L + 1, n => a n * rec a b L (n - 1) + b n

/-- Two adjacent stretches of factors. -/
theorem prod_add (a : ℕ → EReal) (M : ℕ) : ∀ L n, prod a (L + M) n = prod a L n * prod a M (n - L)
  | 0, n => by simp [prod]
  | L + 1, n => by
    rw [show L + 1 + M = (L + M) + 1 by omega, prod, prod, prod_add a M L (n - 1), mul_assoc,
      show n - 1 - L = n - (L + 1) by omega]

/-- Two adjacent stretches of the recurrence: the earlier one's value is carried through the later one's factors. -/
theorem rec_add (a b : ℕ → EReal) (ha : ∀ n, 0 ≤ a n ∧ a n ≠ ⊤) (M : ℕ) :
    ∀ L n, rec a b (L + M) n = prod a L n * rec a b M (n - L) + rec a b L n
  | 0, n => by simp [prod, rec]
  | L + 1, n => by
    rw [show L + 1 + M = (L + M) + 1 by omega, rec, rec_add a b ha M L (n - 1), prod, rec,
      EReal.left_distrib_of_nonneg_of_ne_top (ha n).1 (ha n).2, mul_assoc, show n - 1 - L = n - (L + 1) by omega, add_assoc]

/-- Over padding rows the product is one, -/
theorem prod_pad (a : ℕ → EReal) (h1 : ∀ n < 1024, a n = 1) : ∀ L n, n < 1024 → prod a L n = 1
  | 0, _, _ => rfl
  | L + 1, n, hn => by rw [prod, h1 n hn, prod_pad a h1 L (n - 1) (by omega), one_mul]

/-- and the recurrence zero. -/
theorem rec_pad (a b : ℕ → EReal) (h1 : ∀ n < 1024, b n = 0) : ∀ L n, n < 1024 → rec a b L n = 0
  | 0, _, _ => rfl
  | L + 1, n, hn => by rw [rec, h1 n hn, rec_pad a b h1 L (n - 1) (by omega), mul_zero, add_zero]

/-! ## What a list of writes leaves in a buffer's rows -/

/-- The first `n` rows of what the writes `L` leave are `G`'s. -/
def Holds (L : List (View.Piece (Elt Ideal) S3072x256 .f32)) (G : ℕ → Fin 256 → EReal) (n : ℕ) : Prop :=
  ∀ j : S3072x256.Idx, (j 0).val < n → View.canon L j = G (j 0).val (j 1)

/-- Fewer rows, of a function that agrees on them. -/
theorem Holds.mono {L : List (View.Piece (Elt Ideal) S3072x256 .f32)} {G G' : ℕ → Fin 256 → EReal} {n k : ℕ}
    (h : Holds L G n) (hk : k ≤ n) (he : ∀ i < k, ∀ c, G i c = G' i c) : Holds L G' k :=
  fun j hj => (h j (by omega)).trans (he _ hj _)

/-- A write of the rows from `lo` on adds them. -/
theorem Holds.cons {lo w : ℕ} {sz : Fin 2 → ℕ} (hw : sz 0 = w) (hc : sz 1 = 256)
    (inb : ∀ a, (![lo, 0] : Fin 2 → ℕ) a + sz a ≤ S3072x256.size a) {p : (⟨2, sz⟩ : Shape).Idx → EReal}
    {L : List (View.Piece (Elt Ideal) S3072x256 .f32)} {G : ℕ → Fin 256 → EReal} (h : Holds L G lo)
    (hp : ∀ x : (⟨2, sz⟩ : Shape).Idx, p x = G (lo + (x 0).val) ((x 1).cast hc)) :
    Holds (⟨Rect.unit ![lo, 0] sz inb, p⟩ :: L) G (lo + w) := by
  intro j hj
  by_cases hlo : (j 0).val < lo
  · rw [View.canon_cons_of_not_mem, h j hlo]
    exact fun hm => absurd (Rect.mem_set_unit (inb := inb).mp hm 0).1 (Nat.not_le.mpr hlo)
  · have hj1 : (j 1).val < 256 := (j 1).isLt
    let x : (Rect.unit (s := S3072x256) ![lo, 0] sz inb).shape.Idx :=
      Fin.cons (α := fun a => Fin (sz a)) ⟨(j 0).val - lo, by omega⟩
        (Fin.cons (α := fun a => Fin (sz (Fin.succ a))) ⟨(j 1).val, by show _ < sz 1; omega⟩ (fun a => a.elim0))
    have hx : (Rect.unit (s := S3072x256) ![lo, 0] sz inb).emb x = j := by
      funext a; apply Fin.ext
      fin_cases a
      · show lo + 1 * ((j 0).val - lo) = (j 0).val; omega
      · show 0 + 1 * (j 1).val = (j 1).val; omega
    conv_lhs => rw [← hx]
    rw [View.canon_cons_emb]
    refine (hp x).trans ?_
    have e0 : lo + (x 0).val = (j 0).val := by show lo + ((j 0).val - lo) = _; omega
    rw [e0]; rfl

/-- A load of 256 rows finds `G`'s. -/
theorem Holds.load {L : List (View.Piece (Elt Ideal) S3072x256 .f32)} {G : ℕ → Fin 256 → EReal} (h : Holds L G 3072)
    (v : Memref sig .tc .vmem S3072x256 .f32) {lo : ℕ} {sz : Fin 2 → ℕ} (hc : sz 1 = 256)
    (inb : ∀ a, (![lo, 0] : Fin 2 → ℕ) a + sz a ≤ S3072x256.size a) (x : (⟨2, sz⟩ : Shape).Idx) :
    v.view.readCov L (Rect.unit (s := S3072x256) ![lo, 0] sz inb).toLoadRect x = G (lo + (x 0).val) ((x 1).cast hc) := by
  rw [View.readCov_eq_canon']
  refine (h _ (Fin.isLt _)).trans ?_
  have e0 : ((Rect.unit (s := S3072x256) ![lo, 0] sz inb).toLoadRect.idx x 0).val = lo + (x 0).val := by
    show lo + 1 * (x 0).val = _; omega
  rw [e0]
  congr 1
  apply Fin.ext
  show 0 + 1 * (x 1).val = (x 1).val; omega

/-! ## One doubling step, as the kernel writes it -/

theorem inbRows {lo : ℕ} (h : lo + 256 ≤ 3072) : ∀ a, (![lo, 0] : Fin 2 → ℕ) a + S256x256.size a ≤ S3072x256.size a :=
  Fin.forall_fin_two.mpr ⟨h, by show 0 + 256 ≤ 256; omega⟩

/-- A load of the 256 rows from `lo` on. -/
def ld (v : Memref sig .tc .vmem S3072x256 .f32) (L : List (View.Piece (Elt Ideal) S3072x256 .f32)) (lo : ℕ)
    (h : lo + 256 ≤ 3072) : Vec Ideal S256x256 .f32 :=
  v.view.readCov L (Rect.unit (s := S3072x256) ![lo, 0] S256x256.size (inbRows h)).toLoadRect

/-- The write of the products' rows from `lo` on: each the row's own and the row `d` above. -/
def pa (va : Memref sig .tc .vmem S3072x256 .f32) (La : List (View.Piece (Elt Ideal) S3072x256 .f32)) (d lo : ℕ)
    (h : lo + 256 ≤ 3072) : View.Piece (Elt Ideal) S3072x256 .f32 :=
  ⟨Rect.unit (s := S3072x256) ![lo, 0] S256x256.size (inbRows h),
    shapeCast (α := EReal) S256x256 (mulf (F := Ideal) (φ := .f32) (ld va La lo h) (ld va La (lo - d) (by omega))) shapeCasts_S256x256_S256x256⟩

/-- The write of the values' rows from `lo` on: the row `d` above carried through, and the row's own. -/
def pb (va vb : Memref sig .tc .vmem S3072x256 .f32) (La Lb : List (View.Piece (Elt Ideal) S3072x256 .f32)) (d lo : ℕ)
    (h : lo + 256 ≤ 3072) : View.Piece (Elt Ideal) S3072x256 .f32 :=
  ⟨Rect.unit (s := S3072x256) ![lo, 0] S256x256.size (inbRows h),
    shapeCast (α := EReal) S256x256 (addf (F := Ideal) (φ := .f32) (mulf (φ := .f32) (ld va La lo h) (ld vb Lb (lo - d) (by omega))) (ld vb Lb lo h)) shapeCasts_S256x256_S256x256⟩

/-- The eight writes of a step over the products. -/
def stepA (va : Memref sig .tc .vmem S3072x256 .f32) (La : List (View.Piece (Elt Ideal) S3072x256 .f32)) (d : ℕ)
    (L : List (View.Piece (Elt Ideal) S3072x256 .f32)) : List (View.Piece (Elt Ideal) S3072x256 .f32) :=
  pa va La d 2816 (by omega) :: pa va La d 2560 (by omega) :: pa va La d 2304 (by omega) :: pa va La d 2048 (by omega)
    :: pa va La d 1792 (by omega) :: pa va La d 1536 (by omega) :: pa va La d 1280 (by omega) :: pa va La d 1024 (by omega) :: L

/-- The eight writes of a step over the values. -/
def stepB (va vb : Memref sig .tc .vmem S3072x256 .f32) (La Lb : List (View.Piece (Elt Ideal) S3072x256 .f32)) (d : ℕ)
    (L : List (View.Piece (Elt Ideal) S3072x256 .f32)) : List (View.Piece (Elt Ideal) S3072x256 .f32) :=
  pb va vb La Lb d 2816 (by omega) :: pb va vb La Lb d 2560 (by omega) :: pb va vb La Lb d 2304 (by omega) :: pb va vb La Lb d 2048 (by omega)
    :: pb va vb La Lb d 1792 (by omega) :: pb va vb La Lb d 1536 (by omega) :: pb va vb La Lb d 1280 (by omega) :: pb va vb La Lb d 1024 (by omega) :: L

variable {La Lb L : List (View.Piece (Elt Ideal) S3072x256 .f32)} {GA GA' GB GB' : ℕ → Fin 256 → EReal} {d : ℕ}

theorem Holds.pa (va : Memref sig .tc .vmem S3072x256 .f32) (hA : Holds La GA 3072) (hd : d ≤ 1024)
    (hG : ∀ n, 1024 ≤ n → ∀ c, GA' n c = GA n c * GA (n - d) c) {lo : ℕ} (hlo : 1024 ≤ lo) (h : lo + 256 ≤ 3072)
    (hL : Holds L GA' lo) : Holds (Scan.pa va La d lo h :: L) GA' (lo + 256) := by
  refine Holds.cons (w := 256) rfl rfl (inbRows h) hL fun x => ?_
  rw [shapeCast_self]
  show ld va La lo h x * ld va La (lo - d) (by omega) x = _
  rw [hG _ (by omega), ld, ld, hA.load va rfl, hA.load va rfl, show lo + (x 0).val - d = lo - d + (x 0).val by omega]

theorem Holds.pb (va vb : Memref sig .tc .vmem S3072x256 .f32) (hA : Holds La GA 3072) (hB : Holds Lb GB 3072) (hd : d ≤ 1024)
    (hG : ∀ n, 1024 ≤ n → ∀ c, GB' n c = GA n c * GB (n - d) c + GB n c) {lo : ℕ} (hlo : 1024 ≤ lo) (h : lo + 256 ≤ 3072)
    (hL : Holds L GB' lo) : Holds (Scan.pb va vb La Lb d lo h :: L) GB' (lo + 256) := by
  refine Holds.cons (w := 256) rfl rfl (inbRows h) hL fun x => ?_
  rw [shapeCast_self]
  show ld va La lo h x * ld vb Lb (lo - d) (by omega) x + ld vb Lb lo h x = _
  rw [hG _ (by omega), ld, ld, ld, hA.load va rfl, hB.load vb rfl, hB.load vb rfl, show lo + (x 0).val - d = lo - d + (x 0).val by omega]

/-- After a step over the products, every row holds the product of its own and the row `d` above. -/
theorem Holds.stepA (va : Memref sig .tc .vmem S3072x256 .f32) (hA : Holds La GA 3072) (hd : d ≤ 1024)
    (hG : ∀ n, 1024 ≤ n → ∀ c, GA' n c = GA n c * GA (n - d) c) (hL : Holds L GA' 1024) :
    Holds (Scan.stepA va La d L) GA' 3072 :=
  .pa va hA hd hG (by omega) _ <| .pa va hA hd hG (by omega) _ <| .pa va hA hd hG (by omega) _ <| .pa va hA hd hG (by omega) _ <|
  .pa va hA hd hG (by omega) _ <| .pa va hA hd hG (by omega) _ <| .pa va hA hd hG (by omega) _ <| .pa va hA hd hG (by omega) _ hL

/-- After a step over the values, every row holds the row `d` above carried through, and its own. -/
theorem Holds.stepB (va vb : Memref sig .tc .vmem S3072x256 .f32) (hA : Holds La GA 3072) (hB : Holds Lb GB 3072) (hd : d ≤ 1024)
    (hG : ∀ n, 1024 ≤ n → ∀ c, GB' n c = GA n c * GB (n - d) c + GB n c) (hL : Holds L GB' 1024) :
    Holds (Scan.stepB va vb La Lb d L) GB' 3072 :=
  .pb va vb hA hB hd hG (by omega) _ <| .pb va vb hA hB hd hG (by omega) _ <| .pb va vb hA hB hd hG (by omega) _ <| .pb va vb hA hB hd hG (by omega) _ <|
  .pb va vb hA hB hd hG (by omega) _ <| .pb va vb hA hB hd hG (by omega) _ <| .pb va vb hA hB hd hG (by omega) _ <| .pb va vb hA hB hd hG (by omega) _ hL

/-! ## The eleven steps -/

/-- A sequence of 2048 rows after 1024 rows of padding. -/
def ext (pad : EReal) (w : S2048x256.Idx → EReal) (c : Fin 256) (n : ℕ) : EReal :=
  if h : 1024 ≤ n ∧ n < 3072 then w (ix2 (⟨n - 1024, by omega⟩ : Fin 2048) c) else pad

theorem ext_pad (pad : EReal) (w : S2048x256.Idx → EReal) (c : Fin 256) : ∀ n < 1024, ext pad w c n = pad :=
  fun n hn => dif_neg (by omega)

/-- The products over `d` rows, row by row and column by column, -/
def PP (wa : S2048x256.Idx → EReal) (d : ℕ) (n : ℕ) (c : Fin 256) : EReal := prod (ext 1 wa c) d n

/-- and the recurrence's values over `d` rows. -/
def HH (wa wb : S2048x256.Idx → EReal) (d : ℕ) (n : ℕ) (c : Fin 256) : EReal := rec (ext 1 wa c) (ext 0 wb c) d n

/-- The factors are nonnegative and finite. -/
def Fine (wa : S2048x256.Idx → EReal) : Prop := ∀ i, 0 ≤ wa i ∧ wa i ≠ ⊤

theorem Fine.ext {wa : S2048x256.Idx → EReal} (h : Fine wa) (c : Fin 256) (n : ℕ) : 0 ≤ Scan.ext 1 wa c n ∧ Scan.ext 1 wa c n ≠ ⊤ := by
  unfold Scan.ext
  split
  · exact h _
  · exact ⟨zero_le_one, EReal.coe_ne_top 1⟩

variable {wa wb : S2048x256.Idx → EReal} {k : ℕ}

/-- A step over the products doubles the stretch. -/
theorem dblA (va : Memref sig .tc .vmem S3072x256 .f32) (d e : ℕ) (he : d + d = e) (hd : d ≤ 1024) (hA : Holds La (PP wa d) 3072)
    (hL : Holds L (PP wa k) 1024) : Holds (stepA va La d L) (PP wa e) 3072 := by
  subst he
  refine hA.stepA va hd (fun n _ c => prod_add _ d d n) (hL.mono le_rfl fun n hn c => ?_)
  exact (prod_pad _ (ext_pad 1 wa c) k n hn).trans (prod_pad _ (ext_pad 1 wa c) _ n hn).symm

/-- A step over the values doubles the stretch. -/
theorem dblB (va vb : Memref sig .tc .vmem S3072x256 .f32) (d e : ℕ) (he : d + d = e) (hd : d ≤ 1024) (hf : Fine wa) (hA : Holds La (PP wa d) 3072)
    (hB : Holds Lb (HH wa wb d) 3072) (hL : Holds L (HH wa wb k) 1024) : Holds (stepB va vb La Lb d L) (HH wa wb e) 3072 := by
  subst he
  refine hA.stepB va vb hB hd (fun n _ c => rec_add _ _ (hf.ext c) d d n) (hL.mono le_rfl fun n hn c => ?_)
  exact (rec_pad _ _ (ext_pad 0 wb c) k n hn).trans (rec_pad _ _ (ext_pad 0 wb c) _ n hn).symm

/-- A fill of the padding rows. -/
theorem fill {G : ℕ → Fin 256 → EReal} (p : S1024x256.Idx → EReal) (hp : ∀ x, ∀ n < 1024, ∀ c, p x = G n c)
    (inb : ∀ a, (![0, 0] : Fin 2 → ℕ) a + S1024x256.size a ≤ S3072x256.size a) :
    Holds [⟨Rect.unit (s := S3072x256) ![0, 0] S1024x256.size inb, p⟩] G 1024 :=
  Holds.cons (lo := 0) (w := 1024) (sz := S1024x256.size) rfl rfl inb (fun j hj => absurd hj (Nat.not_lt_zero _)) fun x => hp x _ (by have : (x 0).val < 1024 := (x 0).isLt; show 0 + (x 0).val < 1024; omega) _

/-- A fill of the padding rows and a write of the sequence after them. -/
theorem seq {pad : EReal} {w : S2048x256.Idx → EReal} {G : ℕ → Fin 256 → EReal} (hG : ∀ n c, G n c = ext pad w c n)
    (hL : Holds L G 1024) (inb : ∀ a, (![1024, 0] : Fin 2 → ℕ) a + S2048x256.size a ≤ S3072x256.size a) :
    Holds (⟨Rect.unit (s := S3072x256) ![1024, 0] S2048x256.size inb, w⟩ :: L) G 3072 :=
  Holds.cons (lo := 1024) (w := 2048) (sz := S2048x256.size) rfl rfl inb hL fun x => by
    have hx : (x 0).val < 2048 := (x 0).isLt
    rw [hG, ext, dif_pos (by omega)]
    congr 1
    funext a; apply Fin.ext
    fin_cases a
    · show (x 0).val = 1024 + (x 0).val - 1024; omega
    · rfl

theorem one_bits : (FloatOps.ofBits (F := Ideal) .f32 1065353216#32 : EReal) = 1 := Ideal.ofBits_one_f32

theorem zero_bits : (FloatOps.ofBits (F := Ideal) .f32 0#32 : EReal) = 0 := Ideal.ofBits_zero_f32

section Run

open kernelRun0_A

variable (c : Dev nD)
  (arg1 : Memref sig .tc .vmem S1x2048x256 .f32) (harg1 : arg1.IsWhole) (arg3 : Memref sig .tc .vmem S4x256 .f32) (harg3 : arg3.IsWhole)
  (arg4 : Memref sig .tc .vmem S1x256 .f32) (harg4 : arg4.IsWhole) (arg5 : Memref sig .tc .vmem S256x256 .bf16) (harg5 : arg5.IsWhole)
  (arg6 : Memref sig .tc .vmem S1x256 .f32) (harg6 : arg6.IsWhole) (arg7 : Memref sig .tc .vmem S256x256 .bf16) (harg7 : arg7.IsWhole)
  (arg8 : Memref sig .tc .vmem S1x256 .f32) (harg8 : arg8.IsWhole) (arg9 : Memref sig .tc .vmem S1x256 .f32) (harg9 : arg9.IsWhole)
  (arg11 arg12 arg13 arg14 : Memref sig .tc .vmem S3072x256 .f32)
  (x0 : Vec Ideal S1x2048x256 .f32) (x2 : Vec Ideal S4x256 .f32) (x3 : Vec Ideal S1x256 .f32) (x4 : Vec Ideal S256x256 .bf16)
  (x5 : Vec Ideal S1x256 .f32) (x6 : Vec Ideal S256x256 .bf16) (x7 : Vec Ideal S1x256 .f32) (x8 : Vec Ideal S1x256 .f32)

/-- The last load finds, in row `t`, the recurrence run over all rows up to `t`: the factors are the kernel's first result
    and the increments its second. -/
theorem scan (hf : Fine (k0_pay11 (sl.r_2 c arg1 harg1 arg3 harg3 arg4 harg4 arg5 harg5 arg6 harg6 arg9 harg9 x0 x2 x3 x4 x5 x8)))
    (y : S2048x256.Idx) :
    sl.v1253 c arg1 harg1 arg3 harg3 arg4 harg4 arg5 harg5 arg6 harg6 arg7 harg7 arg8 harg8 arg9 harg9 arg11 arg12 arg13 arg14 x0 x2 x3 x4 x5 x6 x7 x8 y
    = HH (k0_pay11 (sl.r_2 c arg1 harg1 arg3 harg3 arg4 harg4 arg5 harg5 arg6 harg6 arg9 harg9 x0 x2 x3 x4 x5 x8))
        (k0_pay12 (sl.r c arg1 harg1 arg3 harg3 arg4 harg4 x0 x2 x3)
          (sl.r_1 c arg1 harg1 arg3 harg3 arg4 harg4 arg7 harg7 arg8 harg8 x0 x2 x3 x6 x7)
          (sl.r_2 c arg1 harg1 arg3 harg3 arg4 harg4 arg5 harg5 arg6 harg6 arg9 harg9 x0 x2 x3 x4 x5 x8)
          (sl.r_3 c arg1 harg1 arg3 harg3 arg4 harg4 arg5 harg5 arg6 harg6 arg9 harg9 x0 x2 x3 x4 x5 x8)) 2048 (1024 + (y 0).val) (y 1) := by
  have fa : ∀ (p : S1024x256.Idx → EReal), (∀ x, p x = 1) → ∀ k inb, Holds [⟨Rect.unit (s := S3072x256) ![0, 0] S1024x256.size inb, p⟩]
      (PP (k0_pay11 (sl.r_2 c arg1 harg1 arg3 harg3 arg4 harg4 arg5 harg5 arg6 harg6 arg9 harg9 x0 x2 x3 x4 x5 x8)) k) 1024 := fun p hp k inb =>
    fill p (fun x n hn c => (hp x).trans (prod_pad _ (ext_pad 1 _ c) k n hn).symm) inb
  have fb : ∀ (wb : S2048x256.Idx → EReal) (p : S1024x256.Idx → EReal), (∀ x, p x = 0) → ∀ k inb, Holds [⟨Rect.unit (s := S3072x256) ![0, 0] S1024x256.size inb, p⟩]
      (HH (k0_pay11 (sl.r_2 c arg1 harg1 arg3 harg3 arg4 harg4 arg5 harg5 arg6 harg6 arg9 harg9 x0 x2 x3 x4 x5 x8)) wb k) 1024 := fun wb p hp k inb =>
    fill p (fun x n hn c => (hp x).trans (rec_pad _ _ (ext_pad 0 _ c) k n hn).symm) inb
  have one : ∀ x : S1024x256.Idx, shapeCast (α := EReal) S1024x256 (broadcast S1024x256 (FloatOps.ofBits (F := Ideal) .f32 1065353216#32)) shapeCasts_S1024x256_S1024x256 x = 1 :=
    fun x => by rw [shapeCast_self]; exact one_bits
  have zero : ∀ x : S1024x256.Idx, shapeCast (α := EReal) S1024x256 (broadcast S1024x256 (FloatOps.ofBits (F := Ideal) .f32 0#32)) shapeCasts_S1024x256_S1024x256 x = 0 :=
    fun x => by rw [shapeCast_self]; exact zero_bits
  have a0 : Holds (sl.HS0_2 c arg1 harg1 arg3 harg3 arg4 harg4 arg5 harg5 arg6 harg6 arg9 harg9 x0 x2 x3 x4 x5 x8) (PP _ 1) 3072 :=
    seq (fun n c => mul_one _) (fa _ one 1 _) inb_S3072x256_S2048x256_1024_0
  have b0 : Holds (sl.HS1_2 c arg1 harg1 arg3 harg3 arg4 harg4 arg5 harg5 arg6 harg6 arg7 harg7 arg8 harg8 arg9 harg9 x0 x2 x3 x4 x5 x6 x7 x8) (HH (k0_pay11 (sl.r_2 c arg1 harg1 arg3 harg3 arg4 harg4 arg5 harg5 arg6 harg6 arg9 harg9 x0 x2 x3 x4 x5 x8)) _ 1) 3072 :=
    seq (fun n c => (congrArg (· + _) (mul_zero _)).trans (zero_add _)) (fb _ _ zero 1 _) inb_S3072x256_S2048x256_1024_0
  have a1 : Holds (sl.HS2_9 c arg1 harg1 arg3 harg3 arg4 harg4 arg5 harg5 arg6 harg6 arg9 harg9 arg11 x0 x2 x3 x4 x5 x8) _ 3072 :=
    dblA arg11 1 2 rfl (by omega) a0 (fa _ one 1 _)
  have b1 : Holds (sl.HS3_9 c arg1 harg1 arg3 harg3 arg4 harg4 arg5 harg5 arg6 harg6 arg7 harg7 arg8 harg8 arg9 harg9 arg11 arg12 x0 x2 x3 x4 x5 x6 x7 x8) _ 3072 :=
    dblB arg11 arg12 1 2 rfl (by omega) hf a0 b0 (fb _ _ zero 1 _)
  have a2 : Holds (sl.HS0_10 c arg1 harg1 arg3 harg3 arg4 harg4 arg5 harg5 arg6 harg6 arg9 harg9 arg11 arg13 x0 x2 x3 x4 x5 x8) _ 3072 :=
    dblA arg13 2 4 rfl (by omega) a1 (a0.mono (by omega) fun _ _ _ => rfl)
  have b2 : Holds (sl.HS1_10 c arg1 harg1 arg3 harg3 arg4 harg4 arg5 harg5 arg6 harg6 arg7 harg7 arg8 harg8 arg9 harg9 arg11 arg12 arg13 arg14 x0 x2 x3 x4 x5 x6 x7 x8) _ 3072 :=
    dblB arg13 arg14 2 4 rfl (by omega) hf a1 b1 (b0.mono (by omega) fun _ _ _ => rfl)
  have a3 : Holds (sl.HS2_17 c arg1 harg1 arg3 harg3 arg4 harg4 arg5 harg5 arg6 harg6 arg9 harg9 arg11 arg13 x0 x2 x3 x4 x5 x8) _ 3072 :=
    dblA arg11 4 8 rfl (by omega) a2 (a1.mono (by omega) fun _ _ _ => rfl)
  have b3 : Holds (sl.HS3_17 c arg1 harg1 arg3 harg3 arg4 harg4 arg5 harg5 arg6 harg6 arg7 harg7 arg8 harg8 arg9 harg9 arg11 arg12 arg13 arg14 x0 x2 x3 x4 x5 x6 x7 x8) _ 3072 :=
    dblB arg11 arg12 4 8 rfl (by omega) hf a2 b2 (b1.mono (by omega) fun _ _ _ => rfl)
  have a4 : Holds (sl.HS0_18 c arg1 harg1 arg3 harg3 arg4 harg4 arg5 harg5 arg6 harg6 arg9 harg9 arg11 arg13 x0 x2 x3 x4 x5 x8) _ 3072 :=
    dblA arg13 8 16 rfl (by omega) a3 (a2.mono (by omega) fun _ _ _ => rfl)
  have b4 : Holds (sl.HS1_18 c arg1 harg1 arg3 harg3 arg4 harg4 arg5 harg5 arg6 harg6 arg7 harg7 arg8 harg8 arg9 harg9 arg11 arg12 arg13 arg14 x0 x2 x3 x4 x5 x6 x7 x8) _ 3072 :=
    dblB arg13 arg14 8 16 rfl (by omega) hf a3 b3 (b2.mono (by omega) fun _ _ _ => rfl)
  have a5 : Holds (sl.HS2_25 c arg1 harg1 arg3 harg3 arg4 harg4 arg5 harg5 arg6 harg6 arg9 harg9 arg11 arg13 x0 x2 x3 x4 x5 x8) _ 3072 :=
    dblA arg11 16 32 rfl (by omega) a4 (a3.mono (by omega) fun _ _ _ => rfl)
  have b5 : Holds (sl.HS3_25 c arg1 harg1 arg3 harg3 arg4 harg4 arg5 harg5 arg6 harg6 arg7 harg7 arg8 harg8 arg9 harg9 arg11 arg12 arg13 arg14 x0 x2 x3 x4 x5 x6 x7 x8) _ 3072 :=
    dblB arg11 arg12 16 32 rfl (by omega) hf a4 b4 (b3.mono (by omega) fun _ _ _ => rfl)
  have a6 : Holds (sl.HS0_26 c arg1 harg1 arg3 harg3 arg4 harg4 arg5 harg5 arg6 harg6 arg9 harg9 arg11 arg13 x0 x2 x3 x4 x5 x8) _ 3072 :=
    dblA arg13 32 64 rfl (by omega) a5 (a4.mono (by omega) fun _ _ _ => rfl)
  have b6 : Holds (sl.HS1_26 c arg1 harg1 arg3 harg3 arg4 harg4 arg5 harg5 arg6 harg6 arg7 harg7 arg8 harg8 arg9 harg9 arg11 arg12 arg13 arg14 x0 x2 x3 x4 x5 x6 x7 x8) _ 3072 :=
    dblB arg13 arg14 32 64 rfl (by omega) hf a5 b5 (b4.mono (by omega) fun _ _ _ => rfl)
  have a7 : Holds (sl.HS2_33 c arg1 harg1 arg3 harg3 arg4 harg4 arg5 harg5 arg6 harg6 arg9 harg9 arg11 arg13 x0 x2 x3 x4 x5 x8) _ 3072 :=
    dblA arg11 64 128 rfl (by omega) a6 (a5.mono (by omega) fun _ _ _ => rfl)
  have b7 : Holds (sl.HS3_33 c arg1 harg1 arg3 harg3 arg4 harg4 arg5 harg5 arg6 harg6 arg7 harg7 arg8 harg8 arg9 harg9 arg11 arg12 arg13 arg14 x0 x2 x3 x4 x5 x6 x7 x8) _ 3072 :=
    dblB arg11 arg12 64 128 rfl (by omega) hf a6 b6 (b5.mono (by omega) fun _ _ _ => rfl)
  have a8 : Holds (sl.HS0_34 c arg1 harg1 arg3 harg3 arg4 harg4 arg5 harg5 arg6 harg6 arg9 harg9 arg11 arg13 x0 x2 x3 x4 x5 x8) _ 3072 :=
    dblA arg13 128 256 rfl (by omega) a7 (a6.mono (by omega) fun _ _ _ => rfl)
  have b8 : Holds (sl.HS1_34 c arg1 harg1 arg3 harg3 arg4 harg4 arg5 harg5 arg6 harg6 arg7 harg7 arg8 harg8 arg9 harg9 arg11 arg12 arg13 arg14 x0 x2 x3 x4 x5 x6 x7 x8) _ 3072 :=
    dblB arg13 arg14 128 256 rfl (by omega) hf a7 b7 (b6.mono (by omega) fun _ _ _ => rfl)
  have a9 : Holds (sl.HS2_41 c arg1 harg1 arg3 harg3 arg4 harg4 arg5 harg5 arg6 harg6 arg9 harg9 arg11 arg13 x0 x2 x3 x4 x5 x8) _ 3072 :=
    dblA arg11 256 512 rfl (by omega) a8 (a7.mono (by omega) fun _ _ _ => rfl)
  have b9 : Holds (sl.HS3_41 c arg1 harg1 arg3 harg3 arg4 harg4 arg5 harg5 arg6 harg6 arg7 harg7 arg8 harg8 arg9 harg9 arg11 arg12 arg13 arg14 x0 x2 x3 x4 x5 x6 x7 x8) _ 3072 :=
    dblB arg11 arg12 256 512 rfl (by omega) hf a8 b8 (b7.mono (by omega) fun _ _ _ => rfl)
  have a10 : Holds (sl.HS0_42 c arg1 harg1 arg3 harg3 arg4 harg4 arg5 harg5 arg6 harg6 arg9 harg9 arg11 arg13 x0 x2 x3 x4 x5 x8) _ 3072 :=
    dblA arg13 512 1024 rfl (by omega) a9 (a8.mono (by omega) fun _ _ _ => rfl)
  have b10 : Holds (sl.HS1_42 c arg1 harg1 arg3 harg3 arg4 harg4 arg5 harg5 arg6 harg6 arg7 harg7 arg8 harg8 arg9 harg9 arg11 arg12 arg13 arg14 x0 x2 x3 x4 x5 x6 x7 x8) _ 3072 :=
    dblB arg13 arg14 512 1024 rfl (by omega) hf a9 b9 (b8.mono (by omega) fun _ _ _ => rfl)
  have b11 : Holds (sl.HS3_49 c arg1 harg1 arg3 harg3 arg4 harg4 arg5 harg5 arg6 harg6 arg7 harg7 arg8 harg8 arg9 harg9 arg11 arg12 arg13 arg14 x0 x2 x3 x4 x5 x6 x7 x8) _ 3072 :=
    dblB arg11 arg12 1024 2048 rfl (by omega) hf a10 b10 (b9.mono (by omega) fun _ _ _ => rfl)
  exact b11.load arg14 (sz := S2048x256.size) rfl inb_S3072x256_S2048x256_1024_0 y

end Run

end Cert.KernelIdeal.Scan
-- ==== Proof.LruPoint.lean ====
/- The kernel of the recurrence: what each block holds, the values the body computes from them, and the output's block. -/
module

public import proofs.«01_k».proof.Proof.LruScan
public import proofs.«01_k».proof.Proof.LruSpec
public import Idealize.ShloMosaic.Lib.Claim
public import Idealize.ShloMosaic.Lib.DynamicIndex

@[expose] public section

set_option maxRecDepth 16384

noncomputable section

open Idealize.ShloMosaic Idealize.ShloMosaic.TcCoe Idealize.SL.Sem
open Idealize.ShloMosaic.Pipeline (Dat)

namespace Cert.KernelIdeal.Lru

open Cert.KernelIdeal Cert.KernelIdeal.Gen Cert.Lru kernelRun0_A

variable (m : (ℓ : Loc nD τ sig) → Buf (Elt Ideal) ℓ)

/-- The operands, read off a core's arguments. -/
def args (c : Dev nD) : Args where
  x t s j := m ((c : Thread nD τ).loc main_arg0) (ix3 t s j)
  g t s j := m ((c : Thread nD τ).loc main_arg1) (ix3 t s j)
  w n j := m ((c : Thread nD τ).loc main_arg2) (ix2 n j)
  b j := m ((c : Thread nD τ).loc main_arg3) (ix1 j)
  wa n d e := m ((c : Thread nD τ).loc main_arg4) (ix3 n d e)
  ba n e := m ((c : Thread nD τ).loc main_arg5) (ix2 n e)
  wx n d e := m ((c : Thread nD τ).loc main_arg6) (ix3 n d e)
  bx n e := m ((c : Thread nD τ).loc main_arg7) (ix2 n e)
  lam j := m ((c : Thread nD τ).loc main_arg8) (ix1 j)

/-! ## The blocks -/

theorem idx : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0, 0] :=
  (by decide +kernel : ∀ t : Fin grid0.N, _)

/-- The place of a channel's block in the block-diagonal matrix: one on the diagonal, zero off it. -/
def eye (k j : Fin 256) : EReal := FloatOps.uitofp (F := Ideal) .f32
  (IntOp.cmpi .eq (IntOp.addi (BitVec.ofNat 32 (k.val / 64)) 0#32) (BitVec.ofNat 32 (j.val / 64)))

section
variable (c : Dev nD) (t : Fin cfg0.N) (s : Fin 2048) (n : Fin 4) (k j : Fin 256)

theorem b0 : iblk m c 0 t (ix3 (0 : Fin 1) s j) = (args m c).x t s j := by
  show _ = m ((c : Thread nD τ).loc main_arg0) (ix3 (t : Fin 8) s j)
  blk_point [iblk, V, idx t]
theorem b1 : iblk m c 1 t (ix3 (0 : Fin 1) s j) = (args m c).g t s j := by
  show _ = m ((c : Thread nD τ).loc main_arg1) (ix3 (t : Fin 8) s j)
  blk_point [iblk, V, idx t]
theorem b2 : iblk m c 2 t (ix2 n j) = (args m c).w n j := by
  show _ = m ((c : Thread nD τ).loc main_arg2) (ix2 n j)
  blk_point [iblk, V, idx t]
theorem b3 : iblk m c 3 t (ix2 (0 : Fin 1) j) = (args m c).b j := by
  show _ = m ((c : Thread nD τ).loc main_arg3) (ix1 j)
  blk_point [iblk, V, idx t]
theorem b4 : iblk m c 4 t (ix2 k j) = (args m c).wa (blk k) (off k) (off j) * eye k j := by
  show _ = @HMul.hMul EReal EReal EReal _ (m ((c : Thread nD τ).loc main_arg4) (ix3 (⟨k.val / 64, by omega⟩ : Fin 4) (⟨k.val % 64, by omega⟩ : Fin 64) (⟨j.val % 64, by omega⟩ : Fin 64))) (eye k j)
  unfold eye
  blk_point [iblk, V, idx t]
theorem b5 : iblk m c 5 t (ix2 (0 : Fin 1) j) = (args m c).ba (blk j) (off j) := by
  show _ = m ((c : Thread nD τ).loc main_arg5) (ix2 (⟨j.val / 64, by omega⟩ : Fin 4) (⟨j.val % 64, by omega⟩ : Fin 64))
  blk_point [iblk, V, idx t]
theorem b6 : iblk m c 6 t (ix2 k j) = (args m c).wx (blk k) (off k) (off j) * eye k j := by
  show _ = @HMul.hMul EReal EReal EReal _ (m ((c : Thread nD τ).loc main_arg6) (ix3 (⟨k.val / 64, by omega⟩ : Fin 4) (⟨k.val % 64, by omega⟩ : Fin 64) (⟨j.val % 64, by omega⟩ : Fin 64))) (eye k j)
  unfold eye
  blk_point [iblk, V, idx t]
theorem b7 : iblk m c 7 t (ix2 (0 : Fin 1) j) = (args m c).bx (blk j) (off j) := by
  show _ = m ((c : Thread nD τ).loc main_arg7) (ix2 (⟨j.val / 64, by omega⟩ : Fin 4) (⟨j.val % 64, by omega⟩ : Fin 64))
  blk_point [iblk, V, idx t]
theorem b8 : iblk m c 8 t (ix2 (0 : Fin 1) j) = (args m c).lam j := by
  show _ = m ((c : Thread nD τ).loc main_arg8) (ix1 j)
  blk_point [iblk, V, idx t]
end

theorem eye_eq (n : Fin 4) (d : Fin 64) (j : Fin 256) : eye (chan n d) j = if n = blk j then 1 else 0 := by
  have h : ∀ a b : Fin 4, FloatOps.uitofp (F := Ideal) .f32 (IntOp.cmpi .eq (IntOp.addi (BitVec.ofNat 32 a.val) 0#32) (BitVec.ofNat 32 b.val))
      = if a = b then (1 : EReal) else 0 := by
    intro a b
    fin_cases a <;> fin_cases b <;> simp [FloatOps.uitofp, IntOp.cmpi, IntOp.addi]
  have e : (chan n d).val / 64 = n.val := by simp only [chan]; omega
  rw [← h n (blk j), eye, e]
  rfl

/-- A row of channels through the block-diagonal matrix: only the channel's own block counts. -/
theorem block_sum (f : Fin 256 → EReal) (w : Fin 4 → Fin 64 → Fin 64 → EReal) (j : Fin 256) :
    ∑ k : Fin 256, f k * (w (blk k) (off k) (off j) * eye k j) = ∑ d : Fin 64, w (blk j) d (off j) * f (chan (blk j) d) := by
  rw [← (finProdFinEquiv (m := 4) (n := 64)).sum_comp (fun k : Fin 256 => f k * (w (blk k) (off k) (off j) * eye k j)), Fintype.sum_prod_type,
    Finset.sum_eq_single (blk j)]
  · refine Finset.sum_congr rfl fun d _ => ?_
    have hk : (finProdFinEquiv (blk j, d) : Fin (4 * 64)) = chan (blk j) d := Fin.ext (by simp [chan, finProdFinEquiv]; ring)
    have hb : blk (chan (blk j) d) = blk j := Fin.ext (by simp only [blk, chan]; omega)
    have ho : off (chan (blk j) d) = d := Fin.ext (by simp only [off, chan, blk]; omega)
    rw [hk, eye_eq, if_pos rfl, mul_one, hb, ho, mul_comm]
  · intro n _ hn
    refine Finset.sum_eq_zero fun d _ => ?_
    have hk : (finProdFinEquiv (n, d) : Fin (4 * 64)) = chan n d := Fin.ext (by simp [chan, finProdFinEquiv]; ring)
    rw [hk, eye_eq, if_neg hn, mul_zero, mul_zero]
  · exact fun h => absurd (Finset.mem_univ _) h

/-! ## The body's values -/

/-- A tap of the convolution as the rotated row where the position allows it. -/
theorem rotated (A : Args) (t : Fin 8) (s : Fin 2048) (j : Fin 256) (d : ℕ) (hd : d < 4) (w : EReal)
    (i : Fin 2048) (hi : i.val = (s.val + 2048 - d) % 2048) :
    Scalar.select (IntOp.cmpi .sge (BitVec.ofNat 32 s.val) (BitVec.ofNat 32 d)) (A.x t i j * w) 0 = tap A t s j d * w := by
  have hc : IntOp.cmpi .sge (BitVec.ofNat 32 s.val) (BitVec.ofNat 32 d) = BitVec.ofBool (decide (d ≤ s.val)) := by
    have h1 := toInt_ofNat_of_lt (k := s.val) (by omega)
    have h2 := toInt_ofNat_of_lt (k := d) (by omega)
    simp [IntOp.cmpi, BitVec.sle, h1, h2]
  rw [hc, tap]
  by_cases h : d ≤ s.val
  · rw [dif_pos h, decide_eq_true h]
    have : i = ⟨s.val - d, by omega⟩ := Fin.ext (by simp only; omega)
    rw [this]; rfl
  · rw [dif_neg h, decide_eq_false h, zero_mul]; rfl

section
variable (c : Dev nD) (t : Fin cfg0.N)

/-- The convolution, the input gate, the decay and the negated hyperbolic tangent of the decay's logarithm, as the body
    leaves them. -/
def xc : S2048x256.Idx → EReal := sl.r c (ms0_0 t) (hs0_0 t) (ms0_2 t) (hs0_2 t) (ms0_3 t) (hs0_3 t) (iblk m c 0 t) (iblk m c 2 t) (iblk m c 3 t)
def xi : S2048x256.Idx → EReal := sl.r_1 c (ms0_0 t) (hs0_0 t) (ms0_2 t) (hs0_2 t) (ms0_3 t) (hs0_3 t) (ms0_6 t) (hs0_6 t) (ms0_7 t) (hs0_7 t) (iblk m c 0 t) (iblk m c 2 t) (iblk m c 3 t) (iblk m c 6 t) (iblk m c 7 t)
def xa : S2048x256.Idx → EReal := sl.r_2 c (ms0_0 t) (hs0_0 t) (ms0_2 t) (hs0_2 t) (ms0_3 t) (hs0_3 t) (ms0_4 t) (hs0_4 t) (ms0_5 t) (hs0_5 t) (ms0_8 t) (hs0_8 t) (iblk m c 0 t) (iblk m c 2 t) (iblk m c 3 t) (iblk m c 4 t) (iblk m c 5 t) (iblk m c 8 t)
def xt : S2048x256.Idx → EReal := sl.r_3 c (ms0_0 t) (hs0_0 t) (ms0_2 t) (hs0_2 t) (ms0_3 t) (hs0_3 t) (ms0_4 t) (hs0_4 t) (ms0_5 t) (hs0_5 t) (ms0_8 t) (hs0_8 t) (iblk m c 0 t) (iblk m c 2 t) (iblk m c 3 t) (iblk m c 4 t) (iblk m c 5 t) (iblk m c 8 t)
/-- The scan's last row. -/
def xh : S2048x256.Idx → EReal := sl.v1253 c (ms0_0 t) (hs0_0 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 scM0_1 scM0_2 scM0_3 (iblk m c 0 t) (iblk m c 2 t) (iblk m c 3 t) (iblk m c 4 t) (iblk m c 5 t) (iblk m c 6 t) (iblk m c 7 t) (iblk m c 8 t)

theorem xc_def : k0_pay1 (F := Ideal) (iblk m c 0 t) (iblk m c 3 t)
        (View.ld (iblk m c 2 t) (Rect.unit ![0, 0] ![1, 256] inb_S4x256_S1x256_0_0))
        (View.ld (iblk m c 2 t) (Rect.unit ![1, 0] ![1, 256] inb_S4x256_S1x256_1_0))
        (View.ld (iblk m c 2 t) (Rect.unit ![2, 0] ![1, 256] inb_S4x256_S1x256_2_0))
        (View.ld (iblk m c 2 t) (Rect.unit ![3, 0] ![1, 256] inb_S4x256_S1x256_3_0)) = xc m c t := by
  unfold xc sl.r
  frame_out
  rfl

theorem xc_eq (s : Fin 2048) (j : Fin 256) : xc m c t (ix2 s j) = conv (args m c) t s j := by
  rw [← xc_def]
  pointwise [k0_pay1]
  rw [b3, b0, b0, b0, b0, b2, b2, b2, b2, rotated _ t s j 3 (by omega) _ _ rfl, rotated _ t s j 2 (by omega) _ _ rfl,
    rotated _ t s j 1 (by omega) _ _ rfl]
  have h := tap_zero (args m c) t s j
  rw [← h]
  rfl

theorem xi_eq (s : Fin 2048) (j : Fin 256) :
    xi m c t (ix2 s j) = gate (args m c) (args m c).wx (args m c).bx t s j := by
  unfold xi sl.r_1
  frame_out
  refine (congrArg (fun r => k0_pay3 (F := Ideal) r (iblk m c 6 t) (iblk m c 7 t) (ix2 s j)) (xc_def m c t)).trans ?_
  pointwise [k0_pay3, k0_pay2]
  simp only [xc_eq, b6, b7, block_sum]
  rfl

theorem xa_log (s : Fin 2048) (j : Fin 256) :
    k0_pay4 (F := Ideal) (xc m c t) (iblk m c 4 t) (iblk m c 5 t) (iblk m c 8 t) (ix2 s j) = logA (args m c) t s j := by
  pointwise [k0_pay4, k0_pay2]
  rw [if_neg (fun h => h rfl)]
  simp only [xc_eq, b4, b5, b8, block_sum, zero_sub]
  rfl

theorem xa_eq (s : Fin 2048) (j : Fin 256) : xa m c t (ix2 s j) = dec (args m c) t s j := by
  unfold xa sl.r_2
  frame_out
  refine (congrArg (fun r => k0_pay5 (F := Ideal) r (iblk m c 4 t) (iblk m c 5 t) (iblk m c 8 t) (ix2 s j)) (xc_def m c t)).trans ?_
  exact congrArg Ideal.exp (xa_log m c t s j)

theorem xt_eq (s : Fin 2048) (j : Fin 256) : xt m c t (ix2 s j) = 0 - Ideal.tanh (logA (args m c) t s j) := by
  unfold xt sl.r_3
  frame_out
  refine (congrArg (fun r => k0_pay6 (F := Ideal) r (iblk m c 4 t) (iblk m c 5 t) (iblk m c 8 t) (ix2 s j)) (xc_def m c t)).trans ?_
  have h := xa_log m c t s j
  rw [← h]
  pointwise [k0_pay6, k0_pay4]

theorem outs : outsAt0 m c t = k0_pay207 (xh m c t) (iblk m c 1 t) := by
  unfold xh
  rw [outsAt0, out0_A_9, View.read_writes_junk_eq_canon]
  refine (View.canon_unit_zero (S := S1x2048x256) (off := ![0,0,0]) (by decide) _ _).trans ?_
  unfold sl.r_27
  frame_out

theorem kept (y : S2048x256.Idx) : k0_pay11 (F := Ideal) (xa m c t) y = dec (args m c) t (y 0) (y 1) := by
  obtain ⟨s, j, rfl⟩ : ∃ (s : Fin 2048) (j : Fin 256), y = ix2 s j := ⟨y 0, y 1, by funext a; fin_cases a <;> rfl⟩
  refine Eq.trans ?_ (xa_eq m c t s j)
  pointwise [k0_pay11]

theorem fed (y : S2048x256.Idx) :
    k0_pay12 (F := Ideal) (xc m c t) (xi m c t) (xa m c t) (xt m c t) y = inp (args m c) t (y 0) (y 1) := by
  obtain ⟨s, j, rfl⟩ : ∃ (s : Fin 2048) (j : Fin 256), y = ix2 s j := ⟨y 0, y 1, by funext a; fin_cases a <;> rfl⟩
  pointwise [k0_pay12]
  simp only [xc_eq, xi_eq, xa_eq, xt_eq]
  have h := tanh_exp (logA (args m c) t s j)
  exact congrArg (fun z => Ideal.sqrt z * (gate (args m c) (args m c).wx (args m c).bx t s j * conv (args m c) t s j)) h

theorem xh_eq (y : S2048x256.Idx) : xh m c t y
    = Scan.HH (k0_pay11 (F := Ideal) (xa m c t)) (k0_pay12 (F := Ideal) (xc m c t) (xi m c t) (xa m c t) (xt m c t)) 2048 (1024 + (y 0).val) (y 1) := by
  have hf : Scan.Fine (k0_pay11 (F := Ideal) (xa m c t)) := fun i => by rw [kept]; exact dec_fine _ _ _ _
  unfold xa at hf
  unfold xh xc xi xa xt
  exact Scan.scan _ _ _ _ _ _ _ _ _ _ _ _ _ _ _ _ _ _ _ _ _ _ _ _ _ _ _ _ _ hf y

/-- The scan's row at a position is the recurrence's state there. -/
theorem scan_state (L s : ℕ) (hs : s < L) (h : s < 2048) (j : Fin 256) :
    Scan.HH (k0_pay11 (F := Ideal) (xa m c t)) (k0_pay12 (F := Ideal) (xc m c t) (xi m c t) (xa m c t) (xt m c t)) L (1024 + s) j
      = state (args m c) t (s + 1) j := by
  have ha : Scan.ext 1 (k0_pay11 (F := Ideal) (xa m c t)) j (1024 + s) = dec (args m c) t ⟨s, h⟩ j := by
    rw [Scan.ext, dif_pos ⟨by omega, by omega⟩, kept]
    have e : 1024 + s - 1024 = s := by omega
    simp only [e]
    rfl
  have hu : Scan.ext 0 (k0_pay12 (F := Ideal) (xc m c t) (xi m c t) (xa m c t) (xt m c t)) j (1024 + s) = inp (args m c) t ⟨s, h⟩ j := by
    rw [Scan.ext, dif_pos ⟨by omega, by omega⟩, fed]
    have e : 1024 + s - 1024 = s := by omega
    simp only [e]
    rfl
  obtain ⟨L, rfl⟩ : ∃ K, L = K + 1 := ⟨L - 1, by omega⟩
  have hst : state (args m c) t (s + 1) j = dec (args m c) t ⟨s, h⟩ j * state (args m c) t s j + inp (args m c) t ⟨s, h⟩ j := dif_pos h
  rw [Scan.HH, Scan.rec, ha, hu, hst]
  congr 2
  cases s with
  | zero => exact Scan.rec_pad _ _ (Scan.ext_pad 0 _ j) L _ (by omega)
  | succ s =>
    have := scan_state L s (by omega) (by omega) j
    rwa [Scan.HH] at this

/-- What the body stores at an element is the layer's output there. -/
theorem stored (s : Fin 2048) (j : Fin 256) : outsAt0 m c t (ix3 (0 : Fin 1) s j) = out (args m c) t s j := by
  have h : outsAt0 m c t (ix3 (0 : Fin 1) s j) = xh m c t (ix2 s j) * act (iblk m c 1 t (ix3 (0 : Fin 1) s j)) := by
    rw [outs]
    pointwise [k0_pay207, act]
    simp only [mul_assoc]
  rw [h, xh_eq, b1]
  exact congrArg (· * act ((args m c).g t s j)) (scan_state m c t 2048 s.val s.isLt s.isLt j)

end

/-- The kernel's result array is the layer's output. -/
theorem final (c : Dev nD) : (dats m 0 c).arrAt 9 (cfgs 0).N
    = fun i : S8x2048x256.Idx => out (args m c) (i 0) (i 1) (i 2) := by
  refine (dats m 0 c).arrAt_eq_of_covers 9 _ (by decide +kernel) fun t _ y => ?_
  blk_simp
  rw [after0_9]
  obtain ⟨s, j, rfl⟩ : ∃ (s : Fin 2048) (j : Fin 256), y = ix3 (0 : Fin 1) s j :=
    ⟨y 1, y 2, by funext a; fin_cases a <;> first | rfl | exact Subsingleton.elim (α := Fin 1) _ _⟩
  have he : (win0_9.blk t).view.emb (ix3 (0 : Fin 1) s j) = ix3 (t : Fin 8) s j := by
    blk_ext [idx t]
  rw [he]
  exact stored m c t s j

end Cert.KernelIdeal.Lru
-- ==== Proof.Lru.lean ====
/- The recurrence's kernel equals the plain mathematics of its reference. -/
module

public import proofs.«01_k».proof.Defs
public import proofs.«01_k».proof.Proof.LruRef
public import proofs.«01_k».proof.Proof.LruPoint

@[expose] public section

set_option maxRecDepth 16384

noncomputable section

open Idealize.ShloMosaic Idealize.ShloMosaic.TcCoe Idealize.SL.Sem

namespace Cert.Proof

open Cert.ReferenceIdeal.Value Cert.Lru in
/-- The recurrence's kernel and its reference end with the same array, their arguments unchanged. -/
theorem recurrence : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 9 (Cert.KernelIdeal.cfgs 0).N, ?_, ?_⟩
  · exact Cert.KernelIdeal.Value.run_blocks m g
  · refine (θ_run Cert.ReferenceIdeal.defs _ _).mono (fun r h c => ⟨?_, (h c).2⟩) (Cert.ReferenceIdeal.Value.run m' g')
    rw [(h c).1]
    refine Eq.trans ?_ (Cert.KernelIdeal.Lru.final m c).symm
    obtain ⟨h0, h1, h2, h3, h4, h5, h6, h7, h8⟩ := hagree c
    funext i
    obtain ⟨t, s, j, rfl⟩ : ∃ (t : Fin 8) (s : Fin 2048) (j : Fin 256), i = ix3 t s j :=
      ⟨i 0, i 1, i 2, by funext a; fin_cases a <;> rfl⟩
    have hr := Cert.ReferenceIdeal.Lru.result (StableHlo.launchContents m' c) t s j (iter_main_arg1 m' c 2048)
    refine Eq.trans hr ?_
    have ha : Cert.ReferenceIdeal.Lru.args (StableHlo.launchContents m' c) = Cert.KernelIdeal.Lru.args m c := by
      unfold Cert.ReferenceIdeal.Lru.args Cert.KernelIdeal.Lru.args
      simp only [Args.mk.injEq]
      refine ⟨?_, ?_, ?_, ?_, ?_, ?_, ?_, ?_, ?_⟩
      · exact congrArg (fun X : Cert.KernelIdeal.S8x2048x256.Idx → EReal => fun t s j => X (ix3 t s j)) h0
      · exact congrArg (fun X : Cert.KernelIdeal.S8x2048x256.Idx → EReal => fun t s j => X (ix3 t s j)) h1
      · exact congrArg (fun X : Cert.KernelIdeal.S4x256.Idx → EReal => fun n j => X (ix2 n j)) h2
      · exact congrArg (fun X : Cert.KernelIdeal.S256.Idx → EReal => fun j => X (ix1 j)) h3
      · exact congrArg (fun X : Cert.KernelIdeal.S4x64x64.Idx → EReal => fun n d e => X (ix3 n d e)) h4
      · exact congrArg (fun X : Cert.KernelIdeal.S4x64.Idx → EReal => fun n e => X (ix2 n e)) h5
      · exact congrArg (fun X : Cert.KernelIdeal.S4x64x64.Idx → EReal => fun n d e => X (ix3 n d e)) h6
      · exact congrArg (fun X : Cert.KernelIdeal.S4x64.Idx → EReal => fun n e => X (ix2 n e)) h7
      · exact congrArg (fun X : Cert.KernelIdeal.S256.Idx → EReal => fun j => X (ix1 j)) h8
    rw [ha]
    rfl

end Cert.Proof

end
-- ==== Proof.Ffn.lean ====
/- The first SwiGLU half-step: the array the kernel writes back, block of rows by block of rows, is the reference's
   array. -/
module

public import proofs.«01_k».proof.Proof.Gen.Kernel2Ideal.Value
public import proofs.«01_k».proof.Proof.Gen.Reference2Ideal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Half

open Cert.Kernel2Ideal Cert.Kernel2Ideal.Gen

variable (m : (ℓ : Loc nD τ sig) → Buf (Elt Ideal) ℓ)

/-- The block that every window reads or writes at each of the 32 points. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_6.index t = ![t.val, 0] :=
  (by decide +kernel : ∀ t : Fin grid0.N, _)

open Cert.Reference2Ideal.Read in
/-- What the kernel stores at an element of its block is the reference's element at the place the block puts it. -/
theorem point (c : Dev nD) (t : Fin cfg0.N) (y : S512x1024.Idx) :
    k0_pay5 (iblk m c 0 t) (k0_pay3 (k0_pay1 (iblk m c 0 t) (iblk m c 1 t)) (iblk m c 2 t) (iblk m c 3 t) (iblk m c 4 t)) y
    = val_main_v28 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  rw [← val_main_v28_eq]
  pointwise [k0_pay5, k0_pay3, k0_pay2, k0_pay1]
  simp only [Ideal.logistic]
  blk_point [iblk, V, idx t]

open Cert.Reference2Ideal.Read in
/-- The kernel's result array is the reference's. -/
theorem final (c : Dev nD) : (dats m 0 c).arrAt 6 (cfgs 0).N
    = val_main_v28 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  simp only [outsAt0]
  frame_out
  exact point m c t y

end Cert.Kernel2Ideal.Half

namespace Cert.Proof

/-- The first half-step's kernel and its reference end with the same array, their arguments unchanged. -/
theorem half_step : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 6 (Cert.Kernel2Ideal.cfgs 0).N, ?_, ?_⟩
  · exact Cert.Kernel2Ideal.Value.run_blocks m g
  · refine (θ_run Cert.Reference2Ideal.defs _ _).mono (fun r h c => ⟨?_, (h c).2⟩) (Cert.Reference2Ideal.Value.run m' g')
    rw [(h c).1, (hagree c).1, (hagree c).2.1, (hagree c).2.2.1, (hagree c).2.2.2.1, (hagree c).2.2.2.2]
    exact (Cert.Kernel2Ideal.Half.final m c).symm

end Cert.Proof

end
-- ==== Proof.FfnFinal.lean ====
/- The last SwiGLU half-step, with the final RMSNorm: the array the kernel writes back, block of rows by block of rows, is the reference's
   array. -/
module

public import proofs.«01_k».proof.Proof.Gen.Kernel3Ideal.Value
public import proofs.«01_k».proof.Proof.Gen.Reference3Ideal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Half

open Cert.Kernel3Ideal Cert.Kernel3Ideal.Gen

variable (m : (ℓ : Loc nD τ sig) → Buf (Elt Ideal) ℓ)

/-- The block that every window reads or writes at each of the 32 points. -/
theorem idx : ∀ t : Fin cfg0.N, win0_0.index t = ![t.val, 0] ∧ win0_1.index t = ![0, 0] ∧ win0_2.index t = ![3, 0, 0]
    ∧ win0_3.index t = ![3, 0, 0] ∧ win0_4.index t = ![3, 0, 0] ∧ win0_5.index t = ![0, 0] ∧ win0_6.index t = ![t.val, 0] :=
  (by decide +kernel : ∀ t : Fin grid0.N, _)

open Cert.Reference3Ideal.Read in
/-- What the kernel stores at an element of its block is the reference's element at the place the block puts it. -/
theorem point (c : Dev nD) (t : Fin cfg0.N) (y : S512x1024.Idx) :
    k0_pay5 (iblk m c 0 t) (k0_pay3 (k0_pay1 (iblk m c 0 t) (iblk m c 1 t)) (iblk m c 2 t) (iblk m c 3 t) (iblk m c 4 t)) (iblk m c 5 t) y
    = val_main_v41 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (((cfg0.win 6).blk t).view.emb y) := by
  pointwise [k0_pay5, k0_pay3, k0_pay2, k0_pay1,
    val_main_v0, val_main_v1, val_main_v2, val_main_cst, val_main_v3, val_main_v4, val_main_cst_0, val_main_v5,
    val_main_v6, val_main_cst_1, val_main_v7, val_main_v8, val_main_v9, val_main_v10, val_main_v11, val_main_v12,
    val_main_v13, val_main_v14, val_main_v15, val_main_v16, val_main_v17, val_main_v18, val_main_v19,
    val_main_v20, val_main_v21, val_main_call0_v0, val_main_call0_v1, val_main_call0_cst, val_main_call0_v2,
    val_main_call0_v3, val_main_call0_cst_0, val_main_call0_v4, val_main_call0_v5, val_main_v22, val_main_v23,
    val_main_v24, val_main_v25, val_main_cst_2, val_main_v26, val_main_v27, val_main_v28, val_main_v29,
    val_main_cst_3, val_main_v30, val_main_v31, val_main_cst_4, val_main_v32, val_main_v33, val_main_cst_5,
    val_main_v34, val_main_v35, val_main_v36, val_main_v37, val_main_v38, val_main_v39, val_main_v40, val_main_v41]
  simp only [Ideal.logistic]
  blk_point [iblk, V, idx t]

open Cert.Reference3Ideal.Read in
/-- The kernel's result array is the reference's. -/
theorem final (c : Dev nD) : (dats m 0 c).arrAt 6 (cfgs 0).N
    = val_main_v41 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  simp only [outsAt0]
  frame_out
  exact point m c t y

end Cert.Kernel3Ideal.Half

namespace Cert.Proof

/-- The last half-step's kernel and its reference end with the same array, their arguments unchanged. -/
theorem last_half_step : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 6 (Cert.Kernel3Ideal.cfgs 0).N, ?_, ?_⟩
  · exact Cert.Kernel3Ideal.Value.run_blocks m g
  · refine (θ_run Cert.Reference3Ideal.defs _ _).mono (fun r h c => ⟨?_, (h c).2⟩) (Cert.Reference3Ideal.Value.run m' g')
    rw [(h c).1, Cert.Reference3Ideal.Read.val_main_v41_eq, (hagree c).1, (hagree c).2.1, (hagree c).2.2.1, (hagree c).2.2.2.1, (hagree c).2.2.2.2.1,
      (hagree c).2.2.2.2.2]
    exact (Cert.Kernel3Ideal.Half.final m c).symm

end Cert.Proof

end
-- ==== Proof.HeadSums.lean ====
/- Sums against a matrix of zeros and ones that marks which head a lane belongs to, and the reciprocal root of a head's
   mean square: the plain facts behind a normalization per head. -/
module

public import proofs.«01_k».proof.Proof.Words

@[expose] public section

noncomputable section

open Idealize.ShloMosaic Cert.Words

namespace Cert.Heads

/-- A sum against the indicator of one index is the term there. -/
theorem sum_mark (f : Fin 128 → EReal) (h : ℕ) (hh : h < 128) :
    ∑ j : Fin 128, f j * (if h = j.val then 1 else 0) = f ⟨h, hh⟩ := by
  rw [Finset.sum_eq_single (⟨h, hh⟩ : Fin 128)]
  · simp
  · intro j _ hj
    rw [if_neg (fun e => hj (Fin.ext e.symm)), mul_zero]
  · intro h'; exact absurd (Finset.mem_univ _) h'

/-- A sum over lanes, kept only where the lane lies in one head, is the sum over that head's 64 lanes. -/
theorem sum_head {W : ℕ} (g : Fin W → EReal) (b : ℕ) (hb : 64 * b + 64 ≤ W) (q : ℕ) (o : ℕ) (hq : q = o + b) :
    ∑ l : Fin W, g l * (if o + l.val / 64 = q then 1 else 0) = ∑ d : Fin 64, g ⟨64 * b + d.val, by omega⟩ := by
  symm
  refine Fintype.sum_of_injective (fun d : Fin 64 => (⟨64 * b + d.val, by omega⟩ : Fin W))
    (fun d d' h => Fin.ext (by have := congrArg Fin.val h; simp only at this; omega)) _ _ (fun l hl => ?_) (fun d => ?_)
  · rw [if_neg, mul_zero]
    intro e
    exact hl ⟨⟨l.val - 64 * b, by omega⟩, Fin.ext (by simp only; omega)⟩
  · simp only
    rw [if_pos (by omega), mul_one]

/-- A sum over all lanes is the sum over the first 512, the next 256 and the last 256. -/
theorem sum_thirds (f : Fin 1024 → EReal) : ∑ k : Fin 1024, f k
    = ∑ k : Fin 512, f ⟨k.val, by omega⟩ + ∑ k : Fin 256, f ⟨512 + k.val, by omega⟩ + ∑ k : Fin 256, f ⟨768 + k.val, by omega⟩ := by
  have h1 := Fin.sum_univ_add (a := 768) (b := 256) f
  have h2 := Fin.sum_univ_add (a := 512) (b := 256) (fun k => f (Fin.castAdd 256 k))
  refine h1.trans ?_
  rw [h2]
  rfl

/-- The reciprocal root of a nonnegative number and a positive real is a real number, so its difference from itself is
    nothing. -/
theorem rsqrt_sub_self (s : EReal) (hs : 0 ≤ s) (e : ℝ) (he : 0 < e) :
    Ideal.rsqrt (s + e) - Ideal.rsqrt (s + e) = 0 := by
  induction s using EReal.rec with
  | bot => exact absurd hs (by simp)
  | top => rw [EReal.top_add_coe, Ideal.rsqrt_top]; simp
  | coe r =>
    have hr : 0 ≤ r := by exact_mod_cast hs
    rw [← EReal.coe_add, Ideal.rsqrt_coe, if_neg (by linarith), if_neg (by linarith), ← EReal.coe_sub, sub_self]
    rfl

/-- A square is nonnegative. -/
theorem sq_nonneg' (x : EReal) : 0 ≤ x * x := by
  induction x using EReal.rec with
  | bot => simp
  | top => simp
  | coe r => rw [← EReal.coe_mul]; exact_mod_cast mul_self_nonneg r

/-- One part of the mixer's output through its rows of the weights: each lane scaled by the reciprocal root that a sum
    against the heads' marks spreads over the head's lanes, the root given as the sum of itself and a remainder. -/
def part {W : ℕ} (x g w : Fin W → EReal) (i0 : Fin W → Fin 128 → EReal) (t0 : Fin 128 → Fin W → EReal) (c e : EReal) : EReal :=
  ∑ k : Fin W, x k * (∑ j : Fin 128, Ideal.rsqrt ((∑ l : Fin W, x l * x l * i0 l j) * c + e) * t0 j k
    + ∑ j : Fin 128, (Ideal.rsqrt ((∑ l : Fin W, x l * x l * i0 l j) * c + e)
      - Ideal.rsqrt ((∑ l : Fin W, x l * x l * i0 l j) * c + e)) * t0 j k) * g k * w k

/-- With marks of zeros and ones, each lane of a part is scaled by the reciprocal root of its own head's mean square. -/
theorem part_eq {W : ℕ} (x g w : Fin W → EReal) (i0 : Fin W → Fin 128 → EReal) (t0 : Fin 128 → Fin W → EReal) (c : EReal)
    (hc : 0 ≤ c) (e : ℝ) (he : 0 < e) (o : ℕ) (hW : W % 64 = 0) (ho : o + W / 64 ≤ 128)
    (hi : ∀ l j, i0 l j = if o + l.val / 64 = j.val then 1 else 0)
    (ht : ∀ j k, t0 j k = if o + k.val / 64 = j.val then 1 else 0) :
    part x g w i0 t0 c e = ∑ k : Fin W, x k * Ideal.rsqrt
      ((∑ d : Fin 64, x ⟨64 * (k.val / 64) + d.val, by omega⟩ * x ⟨64 * (k.val / 64) + d.val, by omega⟩) * c + e) * g k * w k := by
  have hs : ∀ j, 0 ≤ (∑ l : Fin W, x l * x l * i0 l j) * c := fun j => mul_nonneg
    (Finset.sum_nonneg fun l _ => mul_nonneg (sq_nonneg' _) (by rw [hi]; split_ifs <;> simp)) hc
  unfold part
  refine Finset.sum_congr rfl fun k _ => ?_
  have hk : o + k.val / 64 < 128 := by omega
  simp only [rsqrt_sub_self _ (hs _) e he, zero_mul, Finset.sum_const_zero, add_zero]
  simp only [ht]
  rw [sum_mark _ _ hk]
  simp only [hi]
  rw [sum_head (fun l => x l * x l) (k.val / 64) (by omega) _ o rfl]

/-- The product with the word of one over 64 is the quotient by the word of 64. -/
theorem div64 (x : EReal) : x * Ideal.ofBits .f32 0x3C800000#32 = Ideal.div x (Ideal.ofBits .f32 0x42800000#32) := by
  rw [inv_sixty_four_bits, sixty_four_bits, Ideal.div_coe (by norm_num)]

/-- The word of one over 64 is not negative. -/
theorem inv_nonneg : 0 ≤ Ideal.ofBits .f32 0x3C800000#32 := by
  rw [inv_sixty_four_bits]; exact_mod_cast (by norm_num : (0 : ℝ) ≤ 1 / 64)

end Cert.Heads
end
-- ==== Proof.OutProj.lean ====
/- The output projection: the normalization per head that the kernel takes through marks of zeros and ones, and its three
   products of a part with its rows of the weights, are the reference's one product of the normalized heads. -/
module

public import proofs.«01_k».proof.Proof.Gen.Kernel4Ideal.Value
public import proofs.«01_k».proof.Proof.Gen.Reference4Ideal.Read
public import proofs.«01_k».proof.Defs
public import Idealize.ShloMosaic.Lib.Pipeline.ValueKit
public import Idealize.ShloMosaic.Lib.Claim
public import Idealize.ShloMosaic.Lib.WordCmp
public import proofs.«01_k».proof.Proof.HeadSums

@[expose] public section

set_option maxRecDepth 16384

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen

variable (m : (ℓ : Loc nD τ sig) → Buf (Elt Ideal) ℓ)

/-- The block that every window reads or writes at each of the 32 points. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0, 0] ∧ win0_8.index t = ![t.val, 0] :=
  (by decide +kernel : ∀ t : Fin grid0.N, _)

section
variable (c : Dev nD) (t : Fin cfg0.N)
/-- A block of the residual stream, -/
theorem b0 (r : Fin 512) (e : Fin 1024) (q : Fin 16384) (hq : q.val = 512 * t.val + r.val) : iblk m c 0 t (ix2 r e) = m ((c : Thread nD τ).loc main_arg0) (ix2 q e) := by
  blk_point [iblk, V, idx t]
/-- of the attention branch, -/
theorem b1 (r : Fin 512) (k : Fin 512) (q : Fin 16384) (hq : q.val = 512 * t.val + r.val) : iblk m c 1 t (ix2 r k) = m ((c : Thread nD τ).loc main_arg1) (ix2 q k) := by
  blk_point [iblk, V, idx t]
/-- The gain of a lane is its head's, -/
theorem b4 (k : Fin 1024) : iblk m c 4 t (ix2 (0 : Fin 1) k) = m ((c : Thread nD τ).loc main_arg4) (ix3 (0 : Fin 4) (⟨k.val / 64, by omega⟩ : Fin 16) (⟨k.val % 64, by omega⟩ : Fin 64)) := by
  blk_point [iblk, V, idx t]
/-- The kernel's mark of a lane's head: the word one where the lane's head is the column, as a number. -/
def mark (k : Fin 1024) (j : Fin 128) : EReal := FloatOps.uitofp (F := Ideal) .bf16
  (IntOp.cmpi .eq (BitVec.ofNat 32 (k.val / 64)) (BitVec.ofNat 32 j.val))
/-- A mark is one on the lane's own head and zero elsewhere. -/
theorem mark_eq (k : Fin 1024) (j : Fin 128) : mark k j = if k.val / 64 = j.val then 1 else 0 := by
  by_cases h : k.val / 64 = j.val
  · rw [mark, h, if_pos rfl]
    simp [FloatOps.uitofp, IntOp.cmpi]
  · have hn : BitVec.ofNat 32 (k.val / 64) ≠ BitVec.ofNat 32 j.val := fun e => h (by
      have := congrArg BitVec.toNat e
      simp only [BitVec.toNat_ofNat] at this
      omega)
    rw [mark, if_neg h]
    simp [FloatOps.uitofp, IntOp.cmpi, hn]
/-- The host's array of marks, -/
theorem v8 (k : Fin 1024) (j : Fin 128) : V m c main_v8 (ix2 k j) = mark k j := by
  unfold V mark
  after_reads_simp
  pointwise []
/-- and its transpose. -/
theorem v10 (k : Fin 1024) (j : Fin 128) : V m c main_v10 (ix2 j k) = mark k j := by
  unfold V mark
  after_reads_simp
  pointwise []
/-- The marks as the kernel reads them, -/
theorem b5 (k : Fin 1024) (j : Fin 128) : iblk m c 5 t (ix2 k j) = mark k j := by
  rw [← v8 m c]
  blk_point [iblk, idx t]
/-- and their transpose. -/
theorem b6 (k : Fin 1024) (j : Fin 128) : iblk m c 6 t (ix2 j k) = mark k j := by
  rw [← v10 m c]
  blk_point [iblk, idx t]
/-- of the recurrence's branch, -/
theorem b2 (r : Fin 512) (k : Fin 256) (q : Fin 16384) (hq : q.val = 512 * t.val + r.val) : iblk m c 2 t (ix2 r k) = m ((c : Thread nD τ).loc main_arg2) (ix2 q k) := by
  blk_point [iblk, V, idx t]
/-- and of the mLSTM's: rows of the argument. -/
theorem b3 (r : Fin 512) (k : Fin 256) (q : Fin 16384) (hq : q.val = 512 * t.val + r.val) : iblk m c 3 t (ix2 r k) = m ((c : Thread nD τ).loc main_arg3) (ix2 q k) := by
  blk_point [iblk, V, idx t]
/-- and the weights are the layer's. -/
theorem b7 (k : Fin 1024) (e : Fin 1024) : iblk m c 7 t (ix3 (0 : Fin 1) k e) = m ((c : Thread nD τ).loc main_arg5) (ix3 (0 : Fin 4) k e) := by
  blk_point [iblk, V, idx t]
end

/-- A scaled and weighted lane, from equal lanes of the head. -/
theorem lane (X Y G G' W W' c e : EReal) (A B : Fin 64 → EReal) (h : X = Y) (hs : ∀ d, A d = B d) (hg : G = G') (hw : W = W') :
    X * Ideal.rsqrt (Ideal.div (∑ d : Fin 64, A d * A d) c + e) * G * W
    = Y * Ideal.rsqrt (Ideal.div (∑ d : Fin 64, B d * B d) c + e) * G' * W' := by
  rw [h, hg, hw, show A = B from funext hs]

open Cert.Reference4Ideal.Read in
/-- The reference at a row and a lane, its product split over the three parts. -/
theorem ref_at (x0 x1 x2 x3 x4 x5) (r : Fin 16384) (e : Fin 1024) : val_main_v21 (F := Ideal) x0 x1 x2 x3 x4 x5 (ix2 r e)
    = x0 (ix2 r e) + (
    ∑ k : Fin 512, x1 (ix2 r k) * Ideal.rsqrt (Ideal.div (∑ d : Fin 64, x1 (ix2 r (⟨64 * (k.val / 64) + d.val, by omega⟩ : Fin 512)) * x1 (ix2 r (⟨64 * (k.val / 64) + d.val, by omega⟩ : Fin 512))) (Ideal.ofBits .f32 0x42800000#32)
      + Ideal.ofBits .f32 0x358637BD#32) * x4 (ix3 (0 : Fin 4) (⟨k.val / 64, by omega⟩ : Fin 16) (⟨k.val % 64, by omega⟩ : Fin 64)) * x5 (ix3 (0 : Fin 4) (⟨k.val, by omega⟩ : Fin 1024) e)
    + ∑ k : Fin 256, x2 (ix2 r k) * Ideal.rsqrt (Ideal.div (∑ d : Fin 64, x2 (ix2 r (⟨64 * (k.val / 64) + d.val, by omega⟩ : Fin 256)) * x2 (ix2 r (⟨64 * (k.val / 64) + d.val, by omega⟩ : Fin 256))) (Ideal.ofBits .f32 0x42800000#32)
      + Ideal.ofBits .f32 0x358637BD#32) * x4 (ix3 (0 : Fin 4) (⟨(512 + k.val) / 64, by omega⟩ : Fin 16) (⟨(512 + k.val) % 64, by omega⟩ : Fin 64)) * x5 (ix3 (0 : Fin 4) (⟨512 + k.val, by omega⟩ : Fin 1024) e)
    + ∑ k : Fin 256, x3 (ix2 r k) * Ideal.rsqrt (Ideal.div (∑ d : Fin 64, x3 (ix2 r (⟨64 * (k.val / 64) + d.val, by omega⟩ : Fin 256)) * x3 (ix2 r (⟨64 * (k.val / 64) + d.val, by omega⟩ : Fin 256))) (Ideal.ofBits .f32 0x42800000#32)
      + Ideal.ofBits .f32 0x358637BD#32) * x4 (ix3 (0 : Fin 4) (⟨(768 + k.val) / 64, by omega⟩ : Fin 16) (⟨(768 + k.val) % 64, by omega⟩ : Fin 64)) * x5 (ix3 (0 : Fin 4) (⟨768 + k.val, by omega⟩ : Fin 1024) e)) := by
  rw [← val_main_v21_eq]
  pointwise []
  refine congrArg (fun z : EReal => x0 (ix2 r e) + z) ?_
  rw [Cert.Heads.sum_thirds]
  refine congrArg₂ (fun a b : EReal => a + b) (congrArg₂ (fun a b : EReal => a + b) ?_ ?_) ?_
  all_goals refine Finset.sum_congr rfl fun k _ => ?_
  · refine lane _ _ _ _ _ _ _ _ _ (fun d => x1 (ix2 r (⟨64 * (k.val / 64) + d.val, by omega⟩ : Fin 512))) ?_ (fun d => ?_) rfl rfl
    · rw [dif_pos (by simp only; omega)]
    · rw [dif_pos (by simp only; omega)]
      exact congrArg (fun l => x1 (ix2 r l)) (Fin.ext (by simp only; omega))
  · refine lane _ _ _ _ _ _ _ _ _ (fun d => x2 (ix2 r (⟨64 * (k.val / 64) + d.val, by omega⟩ : Fin 256))) ?_ (fun d => ?_) rfl rfl
    · rw [dif_neg (by simp only; omega), dif_pos (by simp only; omega)]
      exact congrArg (fun l => x2 (ix2 r l)) (Fin.ext (by simp only; omega))
    · rw [dif_neg (by simp only; omega), dif_pos (by simp only; omega)]
      exact congrArg (fun l => x2 (ix2 r l)) (Fin.ext (by simp only; omega))
  · refine lane _ _ _ _ _ _ _ _ _ (fun d => x3 (ix2 r (⟨64 * (k.val / 64) + d.val, by omega⟩ : Fin 256))) ?_ (fun d => ?_) rfl rfl
    · rw [dif_neg (by simp only; omega), dif_neg (by simp only; omega)]
      exact congrArg (fun l => x3 (ix2 r l)) (Fin.ext (by simp only; omega))
    · rw [dif_neg (by simp only; omega), dif_neg (by simp only; omega)]
      exact congrArg (fun l => x3 (ix2 r l)) (Fin.ext (by simp only; omega))

/-- What the kernel stores at a row and a lane: the residual and three parts. -/
theorem stored (x0 : Vec Ideal S512x1024 .f32) (x1 : Vec Ideal S512x512 .f32) (x2 x3 : Vec Ideal S512x256 .f32) (x4 : Vec Ideal S1x1024 .f32)
    (x5 : Vec Ideal S1024x128 .bf16) (x6 : Vec Ideal S128x1024 .bf16) (x7 : Vec Ideal S1x1024x1024 .bf16) (r : Fin 512) (e : Fin 1024) :
   out0_8 x0 x1 x2 x3 x4 x5 x6 x7 (ix2 r e) = x0 (ix2 r e)
     + Cert.Heads.part (fun k : Fin 512 => x1 (ix2 r k)) (fun k => x4 (ix2 (0 : Fin 1) (⟨k.val, by omega⟩ : Fin 1024))) (fun k => x7 (ix3 (0 : Fin 1) (⟨k.val, by omega⟩ : Fin 1024) e))
       (fun k j => x5 (ix2 (⟨k.val, by omega⟩ : Fin 1024) j)) (fun j k => x6 (ix2 j (⟨k.val, by omega⟩ : Fin 1024))) (Ideal.ofBits .f32 0x3C800000#32) (Ideal.ofBits .f32 0x358637BD#32)
     + Cert.Heads.part (fun k : Fin 256 => x2 (ix2 r k)) (fun k => x4 (ix2 (0 : Fin 1) (⟨512 + k.val, by omega⟩ : Fin 1024))) (fun k => x7 (ix3 (0 : Fin 1) (⟨512 + k.val, by omega⟩ : Fin 1024) e))
       (fun k j => x5 (ix2 (⟨512 + k.val, by omega⟩ : Fin 1024) j)) (fun j k => x6 (ix2 j (⟨512 + k.val, by omega⟩ : Fin 1024))) (Ideal.ofBits .f32 0x3C800000#32) (Ideal.ofBits .f32 0x358637BD#32)
     + Cert.Heads.part (fun k : Fin 256 => x3 (ix2 r k)) (fun k => x4 (ix2 (0 : Fin 1) (⟨768 + k.val, by omega⟩ : Fin 1024))) (fun k => x7 (ix3 (0 : Fin 1) (⟨768 + k.val, by omega⟩ : Fin 1024) e))
       (fun k j => x5 (ix2 (⟨768 + k.val, by omega⟩ : Fin 1024) j)) (fun j k => x6 (ix2 j (⟨768 + k.val, by omega⟩ : Fin 1024))) (Ideal.ofBits .f32 0x3C800000#32) (Ideal.ofBits .f32 0x358637BD#32) := by
  unfold out0_8
  canon_tiles x h
  obtain ⟨a, b, rfl⟩ : ∃ (a : Fin 512) (b : Fin 1024), x = ix2 a b := ⟨x 0, x 1, eq_ix2 x⟩
  obtain rfl : r = a := Fin.ext h0
  obtain rfl : e = b := Fin.ext h1
  open_payloads
  pointwise
  unfold Cert.Heads.part
  rfl

open Cert.Reference4Ideal.Read in
/-- What the kernel stores at an element of its block is the reference's element at that row. -/
theorem point (c : Dev nD) (t : Fin cfg0.N) (r : Fin 512) (e : Fin 1024) (q : Fin 16384) (hq : q.val = 512 * t.val + r.val) :
    out0_8 (iblk m c 0 t) (iblk m c 1 t) (iblk m c 2 t) (iblk m c 3 t) (iblk m c 4 t) (iblk m c 5 t) (iblk m c 6 t) (iblk m c 7 t) (ix2 r e)
    = val_main_v21 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 q e) := by
  obtain ⟨ε, hε, he⟩ := Cert.Words.eps_bits
  rw [stored, ref_at, he, Cert.Heads.part_eq (o := 0) (hc := Cert.Heads.inv_nonneg) (he := hε) (hW := by omega) (ho := by omega)
      (hi := fun l j => by rw [b5 m c t, mark_eq, Nat.zero_add]) (ht := fun j k => by rw [b6 m c t, mark_eq, Nat.zero_add]),
    Cert.Heads.part_eq (o := 8) (hc := Cert.Heads.inv_nonneg) (he := hε) (hW := by omega) (ho := by omega)
      (hi := fun l j => by rw [b5 m c t, mark_eq]; refine if_congr ?_ rfl rfl; simp only; omega)
      (ht := fun j k => by rw [b6 m c t, mark_eq]; refine if_congr ?_ rfl rfl; simp only; omega),
    Cert.Heads.part_eq (o := 12) (hc := Cert.Heads.inv_nonneg) (he := hε) (hW := by omega) (ho := by omega)
      (hi := fun l j => by rw [b5 m c t, mark_eq]; refine if_congr ?_ rfl rfl; simp only; omega)
      (ht := fun j k => by rw [b6 m c t, mark_eq]; refine if_congr ?_ rfl rfl; simp only; omega)]
  simp only [b0 m c t r e q hq, b1 m c t r _ q hq, b2 m c t r _ q hq, b3 m c t r _ q hq, b4 m c t, b7 m c t, Cert.Heads.div64, add_assoc]

open Cert.Reference4Ideal.Read in
/-- The kernel's result array is the reference's. -/
theorem final (c : Dev nD) : (dats m 0 c).arrAt 8 (cfgs 0).N
    = val_main_v21 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  obtain ⟨r, e, rfl⟩ : ∃ (a : Fin 512) (b : Fin 1024), y = ix2 a b := ⟨y 0, y 1, eq_ix2 y⟩
  have ht : t.val < 32 := t.isLt
  have hb : ((cfg0.win 8).blk t).view.emb (ix2 r e) = ix2 (⟨512 * t.val + r.val, by omega⟩ : Fin 16384) e := by
    blk_ext [idx t]
  exact (point m c t r e _ rfl).trans (congrArg _ hb.symm)

end Cert.Kernel4Ideal.Out

namespace Cert.Proof

/-- The output projection's kernel and its reference end with the same array, their arguments unchanged. -/
theorem out_projection : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 8 (Cert.Kernel4Ideal.cfgs 0).N, ?_, ?_⟩
  · exact Cert.Kernel4Ideal.Value.run_blocks m g
  · refine (θ_run Cert.Reference4Ideal.defs _ _).mono (fun r h c => ⟨?_, (h c).2⟩) (Cert.Reference4Ideal.Value.run m' g')
    rw [(h c).1, (hagree c).1, (hagree c).2.1, (hagree c).2.2.1, (hagree c).2.2.2.1, (hagree c).2.2.2.2.1, (hagree c).2.2.2.2.2]
    exact (Cert.Kernel4Ideal.Out.final m c).symm

end Cert.Proof

end
-- ==== Proof.InProjHost.lean ====
/- The weights of the input projection as the kernel packs them: which column of the projection each packed column and each
   packed row is. -/
module

public import proofs.«01_k».proof.Proof.Gen.Kernel5Ideal.Value
public import proofs.«01_k».proof.Proof.Gen.Reference5Ideal.Read
public import proofs.«01_k».proof.Defs
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.In

open Cert.Kernel5Ideal Cert.Kernel5Ideal.Gen

variable (m : (ℓ : Loc nD τ sig) → Buf (Elt Ideal) ℓ)

/-- The place in the projection of the kernel's packed column: the heads, the recurrence's two inputs, the gates. -/
def col (j : ℕ) : ℕ := if j < 1280 then j else if j < 2048 then j + 536 else if j < 2304 then j + 544
  else if j < 2816 then j - 1000 else if j < 2840 then j - 1536 else j - 256

/-- The place in the projection of the kernel's packed row. -/
def row (i : ℕ) : ℕ := if i < 256 then 2072 + i else if i < 264 then 2328 + i else if i < 288 then 1016 + i
  else if i < 416 then 608 + i else 736 + i

/-- A packed column is the projection's column there. -/
theorem v8 (c : Dev nD) (d : Fin 1024) (j : Fin 2944) (n : Fin 2848) (hj : j.val < 2848) (hn : n.val = col j.val) :
    V m c main_v8 (ix3 (0 : Fin 4) d j) = m ((c : Thread nD τ).loc main_arg2) (ix3 (0 : Fin 4) d n) := by
  unfold V
  after_reads_at
  unfold col at hn
  split_ifs
  all_goals first | omega | skip
  all_goals after_reads_at
  all_goals split_ifs at hn
  all_goals first | omega | exact congrArg (fun l => m ((c : Thread nD τ).loc main_arg2) (ix3 (0 : Fin 4) d l)) (Fin.ext (by simp only; omega))

/-- The packed columns past the projection are zero. -/
theorem v8_zero (c : Dev nD) (d : Fin 1024) (j : Fin 2944) (hj : ¬ j.val < 2848) : V m c main_v8 (ix3 (0 : Fin 4) d j) = (0 : EReal) := by
  unfold V
  after_reads_at
  split_ifs
  all_goals first | omega | skip
  all_goals after_reads_at

/-- A packed row is the projection's column there. -/
theorem v15 (c : Dev nD) (d : Fin 1024) (j : Fin 544) (n : Fin 2848) (hn : n.val = row j.val) :
    V m c main_v15 (ix3 (0 : Fin 4) j d) = m ((c : Thread nD τ).loc main_arg2) (ix3 (0 : Fin 4) d n) := by
  unfold V
  after_reads_at
  unfold row at hn
  split_ifs
  all_goals first | omega | skip
  all_goals after_reads_at
  all_goals split_ifs at hn
  all_goals first | omega | exact congrArg (fun l => m ((c : Thread nD τ).loc main_arg2) (ix3 (0 : Fin 4) d l)) (Fin.ext (by simp only; omega))

end Cert.Kernel5Ideal.In
end
-- ==== Proof.InProjRef.lean ====
/- The input projection's reference, result by result: every element of every result is an element of one product. -/
module

public import proofs.«01_k».proof.Proof.InProjHost
public import proofs.«01_k».proof.Proof.Gen.Reference5Ideal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.In

open Cert.Reference5Ideal.Read

variable (x0 : Vec Ideal Cert.Reference5Ideal.S8x2048x1024 .f32) (x1 : Vec Ideal Cert.Reference5Ideal.S4x1024 .f32)
  (x2 : Vec Ideal Cert.Reference5Ideal.S4x1024x2848 .f32)

/-- The projection: a normalized row times a column of the weights. -/
theorem u_at (b : Fin 8) (q : Fin 2048) (n : Fin 2848) : val_main_v17 (F := Ideal) x0 x1 x2 (ix3 b q n)
   = ∑ d : Fin 1024, val_main_v14 (F := Ideal) x0 x1 (ix3 b q d) * x2 (ix3 (0 : Fin 4) d n) := by
  unfold val_main_v17 val_main_v16 val_main_v15
  pointwise []

/-- The heads' columns side by side, -/
theorem r28 (b : Fin 8) (q : Fin 2048) (j : Fin 2304) (n : Fin 2848) (hn : n.val = col j.val) :
   val_main_v28 (F := Ideal) x0 x1 x2 (ix3 b q j) = val_main_v17 (F := Ideal) x0 x1 x2 (ix3 b q n) := by
  unfold val_main_v28 val_main_v27 val_main_v25 val_main_v24 val_main_v23 val_main_v19 val_main_v18
  generalize val_main_v17 (F := Ideal) x0 x1 x2 = u
  pointwise []
  unfold col at hn
  split_ifs at hn
  all_goals split_ifs
  all_goals first | omega | exact congrArg (fun l => u (ix3 b q l)) (Fin.ext (by simp only; omega))

/-- and split into heads. -/
theorem r30 (b : Fin 8) (h : Fin 36) (q : Fin 2048) (d : Fin 64) (n : Fin 2848) (hn : n.val = col (64 * h.val + d.val)) :
   val_main_v30 (F := Ideal) x0 x1 x2 (ix4 b h q d) = val_main_v17 (F := Ideal) x0 x1 x2 (ix3 b q n) := by
  rw [val_main_v30_apply, val_main_v29_apply, ← r28 x0 x1 x2 b q ⟨64 * h.val + d.val, by omega⟩ n hn]
  congr 1
  funext a
  match a with
  | ⟨0, _⟩ => exact Fin.ext (by show (((b.val * 2048 + q.val) * 36 + h.val) * 64 + d.val) / 4718592 = b.val; omega)
  | ⟨1, _⟩ => exact Fin.ext (by show (((b.val * 2048 + q.val) * 36 + h.val) * 64 + d.val) / 2304 % 2048 = q.val; omega)
  | ⟨2, _⟩ => exact Fin.ext (by show (((b.val * 2048 + q.val) * 36 + h.val) * 64 + d.val) % 2304 = 64 * h.val + d.val; omega)
/-- The recurrence's input -/
theorem r21 (b : Fin 8) (q : Fin 2048) (d : Fin 256) (n : Fin 2848) (hn : n.val = col (2304 + d.val)) :
   val_main_v21 (F := Ideal) x0 x1 x2 (ix3 b q d) = val_main_v17 (F := Ideal) x0 x1 x2 (ix3 b q n) := by
  unfold val_main_v21
  generalize val_main_v17 (F := Ideal) x0 x1 x2 = u
  pointwise []
  unfold col at hn
  split_ifs at hn
  all_goals first | omega | exact congrArg (fun l => u (ix3 b q l)) (Fin.ext (by simp only; omega))

/-- and its gate. -/
theorem r22 (b : Fin 8) (q : Fin 2048) (d : Fin 256) (n : Fin 2848) (hn : n.val = col (2560 + d.val)) :
   val_main_v22 (F := Ideal) x0 x1 x2 (ix3 b q d) = val_main_v17 (F := Ideal) x0 x1 x2 (ix3 b q n) := by
  unfold val_main_v22
  generalize val_main_v17 (F := Ideal) x0 x1 x2 = u
  pointwise []
  unfold col at hn
  split_ifs at hn
  all_goals first | omega | exact congrArg (fun l => u (ix3 b q l)) (Fin.ext (by simp only; omega))

/-- The gates, -/
theorem r32 (b : Fin 8) (q : Fin 2048) (d : Fin 128) (hd : d.val < 32) (n : Fin 2848) (hn : n.val = col (2816 + d.val)) :
   val_main_v32 (F := Ideal) x0 x1 x2 (ix3 b q d) = val_main_v17 (F := Ideal) x0 x1 x2 (ix3 b q n) := by
  unfold val_main_v32 val_main_v31 val_main_call0_v0 val_main_v26 val_main_v20
  generalize val_main_v17 (F := Ideal) x0 x1 x2 = u
  pointwise []
  rw [dif_pos hd]
  unfold col at hn
  split_ifs at hn
  all_goals split_ifs
  all_goals first | omega | exact congrArg (fun l => u (ix3 b q l)) (Fin.ext (by simp only; omega))

/-- and the zeros after them. -/
theorem r32_pad (b : Fin 8) (q : Fin 2048) (d : Fin 128) (hd : ¬ d.val < 32) :
   val_main_v32 (F := Ideal) x0 x1 x2 (ix3 b q d) = (0 : EReal) := by
  unfold val_main_v32 val_main_v31 val_main_call0_v0 val_main_v26 val_main_v20
  generalize val_main_v17 (F := Ideal) x0 x1 x2 = u
  pointwise []
  rw [dif_neg hd]
  simp [val_main_c, FloatOps.sitofp, constantI]

/-- The mLSTM's keys by chunk, transposed. -/
theorem r36 (b : Fin 8) (h : Fin 4) (k : Fin 32) (d i : Fin 64) (q : Fin 2048) (n : Fin 2848) (hq : q.val = 64 * k.val + i.val) (hn : n.val = row (64 * h.val + d.val)) :
   val_main_v36 (F := Ideal) x0 x1 x2 (ix5 b h k d i) = val_main_v17 (F := Ideal) x0 x1 x2 (ix3 b q n) := by
  unfold val_main_v36 val_main_v35 val_main_v34 val_main_v33 val_main_v24
  generalize val_main_v17 (F := Ideal) x0 x1 x2 = u
  pointwise []
  unfold row at hn
  split_ifs at hn
  all_goals first | omega | exact congrArg₂ (fun a l => u (ix3 b a l)) (Fin.ext (by simp only; omega)) (Fin.ext (by simp only; omega))

/-- Its two gates by chunk, transposed. -/
theorem r38 (b : Fin 8) (k : Fin 32) (d : Fin 8) (i : Fin 64) (q : Fin 2048) (n : Fin 2848) (hq : q.val = 64 * k.val + i.val) (hn : n.val = row (256 + d.val)) :
   val_main_v38 (F := Ideal) x0 x1 x2 (ix4 b k d i) = val_main_v17 (F := Ideal) x0 x1 x2 (ix3 b q n) := by
  unfold val_main_v38 val_main_v37 val_main_v26
  generalize val_main_v17 (F := Ideal) x0 x1 x2 = u
  pointwise []
  unfold row at hn
  split_ifs at hn
  all_goals first | omega | exact congrArg₂ (fun a l => u (ix3 b a l)) (Fin.ext (by simp only; omega)) (Fin.ext (by simp only; omega))

/-- The attention's gates, transposed. -/
theorem r39 (b : Fin 8) (d : Fin 24) (q : Fin 2048) (n : Fin 2848) (hn : n.val = row (264 + d.val)) :
   val_main_v39 (F := Ideal) x0 x1 x2 (ix3 b d q) = val_main_v17 (F := Ideal) x0 x1 x2 (ix3 b q n) := by
  unfold val_main_v39 val_main_v20
  generalize val_main_v17 (F := Ideal) x0 x1 x2 = u
  pointwise []
  unfold row at hn
  split_ifs at hn
  all_goals first | omega | exact congrArg (fun l => u (ix3 b q l)) (Fin.ext (by simp only; omega))

/-- The attention's two values side by side, -/
theorem r42 (b : Fin 8) (q : Fin 2048) (l : Fin 256) (n : Fin 2848) (hn : n.val = row (288 + l.val)) :
   val_main_v42 (F := Ideal) x0 x1 x2 (ix3 b q l) = val_main_v17 (F := Ideal) x0 x1 x2 (ix3 b q n) := by
  unfold val_main_v42 val_main_v41 val_main_v40 val_main_v19
  generalize val_main_v17 (F := Ideal) x0 x1 x2 = u
  pointwise []
  unfold row at hn
  split_ifs at hn
  all_goals split_ifs
  all_goals first | omega | exact congrArg (fun l => u (ix3 b q l)) (Fin.ext (by simp only; omega))

/-- and split into heads, transposed. -/
theorem r45 (b : Fin 8) (h : Fin 4) (d : Fin 64) (q : Fin 2048) (n : Fin 2848) (hn : n.val = row (288 + (64 * h.val + d.val))) :
   val_main_v45 (F := Ideal) x0 x1 x2 (ix4 b h d q) = val_main_v17 (F := Ideal) x0 x1 x2 (ix3 b q n) := by
  rw [val_main_v45_apply, val_main_v44_apply, val_main_v43_apply, ← r42 x0 x1 x2 b q ⟨64 * h.val + d.val, by omega⟩ n hn]
  congr 1
  funext a
  match a with
  | ⟨0, _⟩ => exact Fin.ext (by show (((b.val * 2048 + q.val) * 4 + h.val) * 64 + d.val) / 524288 = b.val; omega)
  | ⟨1, _⟩ => exact Fin.ext (by show (((b.val * 2048 + q.val) * 4 + h.val) * 64 + d.val) / 256 % 2048 = q.val; omega)
  | ⟨2, _⟩ => exact Fin.ext (by show (((b.val * 2048 + q.val) * 4 + h.val) * 64 + d.val) % 256 = 64 * h.val + d.val; omega)

end Cert.Kernel5Ideal.In
end
-- ==== Proof.InProj.lean ====
/- The input projection: every block that the kernel stores is a set of columns of one product, laid out as the reference
   lays them out. -/
module

public import proofs.«01_k».proof.Proof.InProjHost
public import proofs.«01_k».proof.Proof.InProjRef
public import proofs.«01_k».proof.Proof.Gen.Reference5Ideal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.In

open Cert.Kernel5Ideal Cert.Kernel5Ideal.Gen

variable (m : (ℓ : Loc nD τ sig) → Buf (Elt Ideal) ℓ)

/-- The block that every window reads or writes at each of the 32 points. -/
theorem idx : ∀ t : Fin cfg0.N, win0_0.index t = ![t.val / 4, t.val % 4, 0] ∧ win0_1.index t = ![0, 0]
    ∧ win0_2.index t = ![0, 0, 0] ∧ win0_3.index t = ![0, 0, 0]
    ∧ win0_4.index t = ![t.val / 4, 0, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, 0, t.val % 4, 0, 0] ∧ win0_9.index t = ![t.val / 4, t.val % 4, 0, 0]
    ∧ win0_10.index t = ![t.val / 4, 0, t.val % 4] ∧ win0_11.index t = ![t.val / 4, 0, 0, t.val % 4] :=
  (by decide +kernel : ∀ t : Fin grid0.N, _)

section
variable (x0 : Vec Ideal S1x512x1024 .f32) (x1 : Vec Ideal S1x1024 .f32) (x2 : Vec Ideal S1x1024x2944 .bf16) (x3 : Vec Ideal S1x544x1024 .bf16)

/-- A row of a block, normalized by its mean square and scaled by the gain. -/
abbrev normed (s : Fin 512) (d : Fin 1024) : EReal := x0 (ix3 (0 : Fin 1) s d)
  * Ideal.rsqrt (Ideal.div (∑ k : Fin 1024, x0 (ix3 (0 : Fin 1) s k) * x0 (ix3 (0 : Fin 1) s k)) (Ideal.ofBits .f32 0x44800000#32)
    + Ideal.ofBits .f32 0x358637BD#32) * x1 (ix2 (0 : Fin 1) d)

/-- The kernel's normalized block. -/
theorem pay106_at (s : Fin 512) (d : Fin 1024) : k0_pay106 x0 x1 x2 x3 (ix2 s d) = normed x0 x1 s d := by
  unfold k0_pay106
  pointwise [k0_pay3]

/-- A row times a column, at equal rows and columns, the row read off a block whose elements are known, -/
theorem dotp (p : S512x1024.Idx → EReal) (q : Fin 512 → Fin 1024 → EReal) (hp : ∀ s d, p (ix2 s d) = q s d)
    (w : S1x1024x2944.Idx → EReal) (s s' : Fin 512) (j j' : Fin 2944) (hs : s.val = s'.val) (hj : j.val = j'.val) :
    ∑ d : Fin 1024, p (ix2 s d) * w (ix3 (0 : Fin 1) d j) = ∑ d : Fin 1024, q s' d * w (ix3 (0 : Fin 1) d j') := by
  simp only [hp]
  rw [Fin.ext hs, Fin.ext hj]

/-- or written out, -/
theorem dot (p : Fin 512 → Fin 1024 → EReal) (w : S1x1024x2944.Idx → EReal) (s s' : Fin 512) (j j' : Fin 2944)
    (hs : s.val = s'.val) (hj : j.val = j'.val) :
    ∑ d : Fin 1024, p s d * w (ix3 (0 : Fin 1) d j) = ∑ d : Fin 1024, p s' d * w (ix3 (0 : Fin 1) d j') := by
  rw [Fin.ext hs, Fin.ext hj]

/-- and the same for a packed row times a row. -/
theorem dotr (p : S512x1024.Idx → EReal) (q : Fin 512 → Fin 1024 → EReal) (hp : ∀ s d, p (ix2 s d) = q s d)
    (w : S1x544x1024.Idx → EReal) (s s' : Fin 512) (j j' : Fin 544) (hs : s.val = s'.val) (hj : j.val = j'.val) :
    ∑ d : Fin 1024, w (ix3 (0 : Fin 1) j d) * p (ix2 s d) = ∑ d : Fin 1024, w (ix3 (0 : Fin 1) j' d) * q s' d := by
  simp only [hp]
  rw [Fin.ext hs, Fin.ext hj]

/-- The heads: a head's lane is a packed column. -/
theorem heads_at (y : S1x36x512x64.Idx) (s : Fin 512) (j : Fin 2944) (hs : s.val = y 2)
    (hj : j.val = 64 * (y 1 : ℕ) + y 3) :
    out0_4 x0 x1 x2 x3 y = ∑ d : Fin 1024, normed x0 x1 s d * x2 (ix3 0 d j) := by
  unfold out0_4 k0_pay107 k0_pay108 k0_pay109
  have hp := pay106_at x0 x1 x2 x3
  generalize k0_pay106 x0 x1 x2 x3 = p at hp
  canon_tiles x h
  all_goals open_payloads
  all_goals pointwise
  all_goals first | refine dotp p _ hp _ _ _ _ _ ?_ ?_ | refine dot (normed x0 x1) _ _ _ _ _ ?_ ?_
  all_goals first | omega | (simp only; omega)
/-- The recurrence's input -/
theorem xr_at (y : S1x512x256.Idx) (s : Fin 512) (j : Fin 2944) (hs : s.val = y 1) (hj : j.val = 2304 + (y 2 : ℕ)) :
    out0_5 x0 x1 x2 x3 y = ∑ d : Fin 1024, normed x0 x1 s d * x2 (ix3 (0 : Fin 1) d j) := by
  unfold out0_5
  have hp := pay106_at x0 x1 x2 x3
  generalize k0_pay106 x0 x1 x2 x3 = p at hp
  canon_tiles x h
  all_goals open_payloads
  all_goals pointwise
  all_goals refine dotp p _ hp _ _ _ _ _ ?_ ?_
  all_goals first | omega | (simp only; omega)

/-- and its gate. -/
theorem gr_at (y : S1x512x256.Idx) (s : Fin 512) (j : Fin 2944) (hs : s.val = y 1) (hj : j.val = 2560 + (y 2 : ℕ)) :
    out0_6 x0 x1 x2 x3 y = ∑ d : Fin 1024, normed x0 x1 s d * x2 (ix3 (0 : Fin 1) d j) := by
  unfold out0_6
  have hp := pay106_at x0 x1 x2 x3
  generalize k0_pay106 x0 x1 x2 x3 = p at hp
  canon_tiles x h
  all_goals open_payloads
  all_goals pointwise
  all_goals refine dotp p _ hp _ _ _ _ _ ?_ ?_
  all_goals first | omega | (simp only; omega)

/-- The gates and the zeros after them. -/
theorem gates_at (y : S1x512x128.Idx) (s : Fin 512) (j : Fin 2944) (hs : s.val = y 1) (hj : j.val = 2816 + (y 2 : ℕ)) :
    out0_7 x0 x1 x2 x3 y = ∑ d : Fin 1024, normed x0 x1 s d * x2 (ix3 (0 : Fin 1) d j) := by
  unfold out0_7
  have hp := pay106_at x0 x1 x2 x3
  generalize k0_pay106 x0 x1 x2 x3 = p at hp
  canon_tiles x h
  all_goals open_payloads
  all_goals pointwise
  all_goals refine dotp p _ hp _ _ _ _ _ ?_ ?_
  all_goals first | omega | (simp only; omega)

/-- The keys by chunk, a lane a packed row. -/
theorem kt_at (y : S1x4x8x64x64.Idx) (s : Fin 512) (j : Fin 544) (hs : s.val = 64 * (y 2 : ℕ) + y 4) (hj : j.val = 64 * (y 1 : ℕ) + y 3) :
    out0_8 x0 x1 x2 x3 y = ∑ d : Fin 1024, x3 (ix3 (0 : Fin 1) j d) * normed x0 x1 s d := by
  unfold out0_8 k0_pay110
  have hp := pay106_at x0 x1 x2 x3
  generalize k0_pay106 x0 x1 x2 x3 = p at hp
  canon_tiles x h
  all_goals open_payloads
  all_goals pointwise
  all_goals refine dotr p _ hp _ _ _ _ _ ?_ ?_
  all_goals first | omega | (simp only; omega)

/-- The mLSTM's gates by chunk. -/
theorem gt_at (y : S1x8x8x64.Idx) (s : Fin 512) (j : Fin 544) (hs : s.val = 64 * (y 1 : ℕ) + y 3) (hj : j.val = 256 + (y 2 : ℕ)) :
    out0_9 x0 x1 x2 x3 y = ∑ d : Fin 1024, x3 (ix3 (0 : Fin 1) j d) * normed x0 x1 s d := by
  unfold out0_9 k0_pay110
  have hp := pay106_at x0 x1 x2 x3
  generalize k0_pay106 x0 x1 x2 x3 = p at hp
  canon_tiles x h
  all_goals open_payloads
  all_goals pointwise
  all_goals refine dotr p _ hp _ _ _ _ _ ?_ ?_
  all_goals first | omega | (simp only; omega)

/-- The attention's gates. -/
theorem gn_at (y : S1x24x512.Idx) (s : Fin 512) (j : Fin 544) (hs : s.val = y 2) (hj : j.val = 264 + (y 1 : ℕ)) :
    out0_10 x0 x1 x2 x3 y = ∑ d : Fin 1024, x3 (ix3 (0 : Fin 1) j d) * normed x0 x1 s d := by
  unfold out0_10 k0_pay110
  have hp := pay106_at x0 x1 x2 x3
  generalize k0_pay106 x0 x1 x2 x3 = p at hp
  canon_tiles x h
  all_goals open_payloads
  all_goals pointwise
  all_goals refine dotr p _ hp _ _ _ _ _ ?_ ?_
  all_goals first | omega | (simp only; omega)

/-- The attention's values. -/
theorem vt_at (y : S1x4x64x512.Idx) (s : Fin 512) (j : Fin 544) (hs : s.val = y 3) (hj : j.val = 288 + (64 * (y 1 : ℕ) + y 2)) :
    out0_11 x0 x1 x2 x3 y = ∑ d : Fin 1024, x3 (ix3 (0 : Fin 1) j d) * normed x0 x1 s d := by
  unfold out0_11 k0_pay110
  have hp := pay106_at x0 x1 x2 x3
  generalize k0_pay106 x0 x1 x2 x3 = p at hp
  canon_tiles x h
  all_goals open_payloads
  all_goals pointwise
  all_goals refine dotr p _ hp _ _ _ _ _ ?_ ?_
  all_goals first | omega | (simp only; omega)

end

section
open Cert.Reference5Ideal.Read

variable (c : Dev nD) (t : Fin cfg0.N) (s : Fin 512) (b : Fin 8) (q : Fin 2048) (hb : b.val = t.val / 4) (hq : q.val = 512 * (t.val % 4) + s.val)
include hb hq

/-- The block's normalized row is the reference's. -/
theorem xn_at (d : Fin 1024) : normed (iblk m c 0 t) (iblk m c 1 t) s d = val_main_v14 (F := Ideal) (m ((c : Thread nD τ).loc main_arg0)) (m ((c : Thread nD τ).loc main_arg1)) (ix3 b q d) := by
  refine (pay106_at _ _ (iblk m c 2 t) (iblk m c 3 t) s d).symm.trans ?_
  unfold k0_pay106 val_main_v14 val_main_v11 val_main_v13 val_main_v12 val_main_v10 val_main_v9 val_main_v8 val_main_v7 val_main_v6 val_main_v5 val_main_v4 val_main_v3 val_main_v2 val_main_v1 val_main_v0 val_main_cst val_main_cst_0 val_main_cst_1
  pointwise [k0_pay3]
  blk_point [iblk, V, idx t]

/-- A row times a packed column is the projection's element there, -/
theorem col_at (j : Fin 2944) (n : Fin 2848) (hj : j.val < 2848) (hn : n.val = col j.val) :
    ∑ d : Fin 1024, normed (iblk m c 0 t) (iblk m c 1 t) s d * iblk m c 2 t (ix3 (0 : Fin 1) d j)
    = val_main_v17 (F := Ideal) (m ((c : Thread nD τ).loc main_arg0)) (m ((c : Thread nD τ).loc main_arg1)) (m ((c : Thread nD τ).loc main_arg2)) (ix3 b q n) := by
  rw [u_at]
  refine Finset.sum_congr rfl fun d _ => ?_
  have hw : iblk m c 2 t (ix3 (0 : Fin 1) d j) = V m c main_v8 (ix3 (0 : Fin 4) d j) := by blk_point [iblk, idx t]
  rw [xn_at m c t s b q hb hq, hw, v8 m c d j n hj hn]

omit hb hq in
/-- and zero past the projection. -/
theorem col_zero (j : Fin 2944) (hj : ¬ j.val < 2848) :
    ∑ d : Fin 1024, normed (iblk m c 0 t) (iblk m c 1 t) s d * iblk m c 2 t (ix3 (0 : Fin 1) d j) = (0 : EReal) := by
  refine Finset.sum_eq_zero fun d _ => ?_
  have hw : iblk m c 2 t (ix3 (0 : Fin 1) d j) = V m c main_v8 (ix3 (0 : Fin 4) d j) := by blk_point [iblk, idx t]
  rw [hw, v8_zero m c d j hj]
  exact mul_zero _

/-- A packed row times a row is the projection's element there. -/
theorem row_at (j : Fin 544) (n : Fin 2848) (hn : n.val = row j.val) :
    ∑ d : Fin 1024, @HMul.hMul EReal EReal EReal _ (iblk m c 3 t (ix3 (0 : Fin 1) j d)) (normed (iblk m c 0 t) (iblk m c 1 t) s d)
    = val_main_v17 (F := Ideal) (m ((c : Thread nD τ).loc main_arg0)) (m ((c : Thread nD τ).loc main_arg1)) (m ((c : Thread nD τ).loc main_arg2)) (ix3 b q n) := by
  rw [u_at]
  refine Finset.sum_congr rfl fun d _ => ?_
  have hw : iblk m c 3 t (ix3 (0 : Fin 1) j d) = V m c main_v15 (ix3 (0 : Fin 4) j d) := by blk_point [iblk, idx t]
  rw [xn_at m c t s b q hb hq, hw, v15 m c d j n hn]
  exact mul_comm _ _

end

open Cert.Reference5Ideal.Read

/-- A packed column's place is a column of the projection, -/
theorem col_lt (j : ℕ) (hj : j < 2848) : col j < 2848 := by unfold col; split_ifs <;> omega

/-- and so is a packed row's. -/
theorem row_lt (j : ℕ) (hj : j < 544) : row j < 2848 := by unfold row; split_ifs <;> omega

/-- The heads. -/
theorem final4 (c : Dev nD) : (dats m 0 c).arrAt 4 (cfgs 0).N = val_main_v30 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  obtain ⟨y0, y1, y2, y3, rfl⟩ : ∃ (y0 : Fin 1) (y1 : Fin 36) (y2 : Fin 512) (y3 : Fin 64), y = ix4 y0 y1 y2 y3 := ⟨y 0, y 1, y 2, y 3, eq_ix4 y⟩
  have ht : t.val < 32 := t.isLt
  have h0 : y0.val = 0 := by omega
  have hb : ((cfg0.win 4).blk t).view.emb (ix4 y0 y1 y2 y3) = ix4 (⟨t.val / 4, by omega⟩ : Fin 8) y1 (⟨512 * (t.val % 4) + y2.val, by omega⟩ : Fin 2048) y3 := by
    blk_ext [idx t]
  refine Eq.trans ?_ (congrArg _ hb.symm)
  exact (heads_at _ _ _ _ _ y2 (⟨64 * y1.val + y3.val, by omega⟩ : Fin 2944) rfl rfl).trans
    ((col_at m c t y2 _ (⟨512 * (t.val % 4) + y2.val, by omega⟩ : Fin 2048) rfl rfl _ ⟨_, col_lt _ (by simp only; omega)⟩ (by simp only; omega) rfl).trans (r30 _ _ _ _ y1 _ y3 _ rfl).symm)

/-- The recurrence's input. -/
theorem final5 (c : Dev nD) : (dats m 0 c).arrAt 5 (cfgs 0).N = val_main_v21 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  obtain ⟨y0, y1, y2, rfl⟩ : ∃ (y0 : Fin 1) (y1 : Fin 512) (y2 : Fin 256), y = ix3 y0 y1 y2 := ⟨y 0, y 1, y 2, eq_ix3 y⟩
  have ht : t.val < 32 := t.isLt
  have h0 : y0.val = 0 := by omega
  have hb : ((cfg0.win 5).blk t).view.emb (ix3 y0 y1 y2) = ix3 (⟨t.val / 4, by omega⟩ : Fin 8) (⟨512 * (t.val % 4) + y1.val, by omega⟩ : Fin 2048) y2 := by
    blk_ext [idx t]
  refine Eq.trans ?_ (congrArg _ hb.symm)
  exact (xr_at _ _ _ _ _ y1 (⟨2304 + y2.val, by omega⟩ : Fin 2944) rfl rfl).trans
    ((col_at m c t y1 _ (⟨512 * (t.val % 4) + y1.val, by omega⟩ : Fin 2048) rfl rfl _ ⟨_, col_lt _ (by simp only; omega)⟩ (by simp only; omega) rfl).trans (r21 _ _ _ _ _ y2 _ rfl).symm)

/-- The recurrence's gate. -/
theorem final6 (c : Dev nD) : (dats m 0 c).arrAt 6 (cfgs 0).N = val_main_v22 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  obtain ⟨y0, y1, y2, rfl⟩ : ∃ (y0 : Fin 1) (y1 : Fin 512) (y2 : Fin 256), y = ix3 y0 y1 y2 := ⟨y 0, y 1, y 2, eq_ix3 y⟩
  have ht : t.val < 32 := t.isLt
  have h0 : y0.val = 0 := by omega
  have hb : ((cfg0.win 6).blk t).view.emb (ix3 y0 y1 y2) = ix3 (⟨t.val / 4, by omega⟩ : Fin 8) (⟨512 * (t.val % 4) + y1.val, by omega⟩ : Fin 2048) y2 := by
    blk_ext [idx t]
  refine Eq.trans ?_ (congrArg _ hb.symm)
  exact (gr_at _ _ _ _ _ y1 (⟨2560 + y2.val, by omega⟩ : Fin 2944) rfl rfl).trans
    ((col_at m c t y1 _ (⟨512 * (t.val % 4) + y1.val, by omega⟩ : Fin 2048) rfl rfl _ ⟨_, col_lt _ (by simp only; omega)⟩ (by simp only; omega) rfl).trans (r22 _ _ _ _ _ y2 _ rfl).symm)

/-- The gates. -/
theorem final7 (c : Dev nD) : (dats m 0 c).arrAt 7 (cfgs 0).N = val_main_v32 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  obtain ⟨y0, y1, y2, rfl⟩ : ∃ (y0 : Fin 1) (y1 : Fin 512) (y2 : Fin 128), y = ix3 y0 y1 y2 := ⟨y 0, y 1, y 2, eq_ix3 y⟩
  have ht : t.val < 32 := t.isLt
  have h0 : y0.val = 0 := by omega
  have hb : ((cfg0.win 7).blk t).view.emb (ix3 y0 y1 y2) = ix3 (⟨t.val / 4, by omega⟩ : Fin 8) (⟨512 * (t.val % 4) + y1.val, by omega⟩ : Fin 2048) y2 := by
    blk_ext [idx t]
  refine Eq.trans ?_ (congrArg _ hb.symm)
  by_cases hd : y2.val < 32
  · exact (gates_at _ _ _ _ _ y1 (⟨2816 + y2.val, by omega⟩ : Fin 2944) rfl rfl).trans
      ((col_at m c t y1 _ (⟨512 * (t.val % 4) + y1.val, by omega⟩ : Fin 2048) rfl rfl _ ⟨_, col_lt _ (by simp only; omega)⟩ (by simp only; omega) rfl).trans (r32 _ _ _ _ _ y2 hd _ rfl).symm)
  · exact (gates_at _ _ _ _ _ y1 (⟨2816 + y2.val, by omega⟩ : Fin 2944) rfl rfl).trans
      ((col_zero m c t y1 _ (by simp only; omega)).trans (r32_pad _ _ _ _ _ y2 hd).symm)

/-- The mLSTM's keys. -/
theorem final8 (c : Dev nD) : (dats m 0 c).arrAt 8 (cfgs 0).N = val_main_v36 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  obtain ⟨y0, y1, y2, y3, y4, rfl⟩ : ∃ (y0 : Fin 1) (y1 : Fin 4) (y2 : Fin 8) (y3 : Fin 64) (y4 : Fin 64), y = ix5 y0 y1 y2 y3 y4 := ⟨y 0, y 1, y 2, y 3, y 4, eq_ix5 y⟩
  have ht : t.val < 32 := t.isLt
  have h0 : y0.val = 0 := by omega
  have hb : ((cfg0.win 8).blk t).view.emb (ix5 y0 y1 y2 y3 y4) = ix5 (⟨t.val / 4, by omega⟩ : Fin 8) y1 (⟨8 * (t.val % 4) + y2.val, by omega⟩ : Fin 32) y3 y4 := by
    blk_ext [idx t]
  refine Eq.trans ?_ (congrArg _ hb.symm)
  exact (kt_at _ _ _ _ _ (⟨64 * y2.val + y4.val, by omega⟩ : Fin 512) (⟨64 * y1.val + y3.val, by omega⟩ : Fin 544) rfl rfl).trans
    ((row_at m c t (⟨64 * y2.val + y4.val, by omega⟩ : Fin 512) _ (⟨512 * (t.val % 4) + (64 * y2.val + y4.val), by omega⟩ : Fin 2048) rfl rfl _ ⟨_, row_lt _ (by simp only; omega)⟩ rfl).trans (r36 _ _ _ _ y1 (⟨8 * (t.val % 4) + y2.val, by omega⟩ : Fin 32) y3 y4 _ _ (by simp only; omega) rfl).symm)

/-- The mLSTM's gates. -/
theorem final9 (c : Dev nD) : (dats m 0 c).arrAt 9 (cfgs 0).N = val_main_v38 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  obtain ⟨y0, y1, y2, y3, rfl⟩ : ∃ (y0 : Fin 1) (y1 : Fin 8) (y2 : Fin 8) (y3 : Fin 64), y = ix4 y0 y1 y2 y3 := ⟨y 0, y 1, y 2, y 3, eq_ix4 y⟩
  have ht : t.val < 32 := t.isLt
  have h0 : y0.val = 0 := by omega
  have hb : ((cfg0.win 9).blk t).view.emb (ix4 y0 y1 y2 y3) = ix4 (⟨t.val / 4, by omega⟩ : Fin 8) (⟨8 * (t.val % 4) + y1.val, by omega⟩ : Fin 32) y2 y3 := by
    blk_ext [idx t]
  refine Eq.trans ?_ (congrArg _ hb.symm)
  exact (gt_at _ _ _ _ _ (⟨64 * y1.val + y3.val, by omega⟩ : Fin 512) (⟨256 + y2.val, by omega⟩ : Fin 544) rfl rfl).trans
    ((row_at m c t (⟨64 * y1.val + y3.val, by omega⟩ : Fin 512) _ (⟨512 * (t.val % 4) + (64 * y1.val + y3.val), by omega⟩ : Fin 2048) rfl rfl _ ⟨_, row_lt _ (by simp only; omega)⟩ rfl).trans (r38 _ _ _ _ (⟨8 * (t.val % 4) + y1.val, by omega⟩ : Fin 32) y2 y3 _ _ (by simp only; omega) rfl).symm)

/-- The attention's gates. -/
theorem final10 (c : Dev nD) : (dats m 0 c).arrAt 10 (cfgs 0).N = val_main_v39 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  obtain ⟨y0, y1, y2, rfl⟩ : ∃ (y0 : Fin 1) (y1 : Fin 24) (y2 : Fin 512), y = ix3 y0 y1 y2 := ⟨y 0, y 1, y 2, eq_ix3 y⟩
  have ht : t.val < 32 := t.isLt
  have h0 : y0.val = 0 := by omega
  have hb : ((cfg0.win 10).blk t).view.emb (ix3 y0 y1 y2) = ix3 (⟨t.val / 4, by omega⟩ : Fin 8) y1 (⟨512 * (t.val % 4) + y2.val, by omega⟩ : Fin 2048) := by
    blk_ext [idx t]
  refine Eq.trans ?_ (congrArg _ hb.symm)
  exact (gn_at _ _ _ _ _ y2 (⟨264 + y1.val, by omega⟩ : Fin 544) rfl rfl).trans
    ((row_at m c t y2 _ (⟨512 * (t.val % 4) + y2.val, by omega⟩ : Fin 2048) rfl rfl _ ⟨_, row_lt _ (by simp only; omega)⟩ rfl).trans (r39 _ _ _ _ y1 _ _ rfl).symm)

/-- The attention's values. -/
theorem final11 (c : Dev nD) : (dats m 0 c).arrAt 11 (cfgs 0).N = val_main_v45 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  obtain ⟨y0, y1, y2, y3, rfl⟩ : ∃ (y0 : Fin 1) (y1 : Fin 4) (y2 : Fin 64) (y3 : Fin 512), y = ix4 y0 y1 y2 y3 := ⟨y 0, y 1, y 2, y 3, eq_ix4 y⟩
  have ht : t.val < 32 := t.isLt
  have h0 : y0.val = 0 := by omega
  have hb : ((cfg0.win 11).blk t).view.emb (ix4 y0 y1 y2 y3) = ix4 (⟨t.val / 4, by omega⟩ : Fin 8) y1 y2 (⟨512 * (t.val % 4) + y3.val, by omega⟩ : Fin 2048) := by
    blk_ext [idx t]
  refine Eq.trans ?_ (congrArg _ hb.symm)
  exact (vt_at _ _ _ _ _ y3 (⟨288 + (64 * y1.val + y2.val), by omega⟩ : Fin 544) rfl rfl).trans
    ((row_at m c t y3 _ (⟨512 * (t.val % 4) + y3.val, by omega⟩ : Fin 2048) rfl rfl _ ⟨_, row_lt _ (by simp only; omega)⟩ rfl).trans (r45 _ _ _ _ y1 y2 _ _ rfl).symm)

end Cert.Kernel5Ideal.In

namespace Cert.Proof

/-- The input projection's kernel and its reference end with the same eight arrays, their arguments unchanged. -/
theorem in_projection : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 4 (Cert.Kernel5Ideal.cfgs 0).N,
    fun c => (Cert.Kernel5Ideal.Gen.dats m 0 c).arrAt 5 (Cert.Kernel5Ideal.cfgs 0).N,
    fun c => (Cert.Kernel5Ideal.Gen.dats m 0 c).arrAt 6 (Cert.Kernel5Ideal.cfgs 0).N,
    fun c => (Cert.Kernel5Ideal.Gen.dats m 0 c).arrAt 7 (Cert.Kernel5Ideal.cfgs 0).N,
    fun c => (Cert.Kernel5Ideal.Gen.dats m 0 c).arrAt 8 (Cert.Kernel5Ideal.cfgs 0).N,
    fun c => (Cert.Kernel5Ideal.Gen.dats m 0 c).arrAt 9 (Cert.Kernel5Ideal.cfgs 0).N,
    fun c => (Cert.Kernel5Ideal.Gen.dats m 0 c).arrAt 10 (Cert.Kernel5Ideal.cfgs 0).N,
    fun c => (Cert.Kernel5Ideal.Gen.dats m 0 c).arrAt 11 (Cert.Kernel5Ideal.cfgs 0).N, ?_, ?_⟩
  · exact Cert.Kernel5Ideal.Value.run_blocks m g
  · refine (θ_run Cert.Reference5Ideal.defs _ _).mono (fun r h c => ?_) (Cert.Reference5Ideal.Value.run m' g')
    obtain ⟨h0, h1, h2, h3, h4, h5, h6, h7, harg⟩ := h c
    obtain ⟨ha, hb, hc⟩ := hagree c
    refine ⟨h0.trans ?_, h1.trans ?_, h2.trans ?_, h3.trans ?_, h4.trans ?_, h5.trans ?_, h6.trans ?_, h7.trans ?_, harg⟩
    · rw [Cert.Reference5Ideal.Read.val_main_v30_eq, ha, hb, hc]; exact (Cert.Kernel5Ideal.In.final4 m c).symm
    · rw [ha, hb, hc]; exact (Cert.Kernel5Ideal.In.final5 m c).symm
    · rw [ha, hb, hc]; exact (Cert.Kernel5Ideal.In.final6 m c).symm
    · rw [ha, hb, hc]; exact (Cert.Kernel5Ideal.In.final7 m c).symm
    · rw [ha, hb, hc]; exact (Cert.Kernel5Ideal.In.final8 m c).symm
    · rw [ha, hb, hc]; exact (Cert.Kernel5Ideal.In.final9 m c).symm
    · rw [ha, hb, hc]; exact (Cert.Kernel5Ideal.In.final10 m c).symm
    · rw [ha, hb, hc]; exact (Cert.Kernel5Ideal.In.final11 m c).symm

end Cert.Proof

end
-- ==== Proof.CompressRef.lean ====
/- The compression's reference, point by point: a hidden unit of a block is the gated sum of its 32 rows' products with
   their weights, a row of the block's second half being one of the next block's first half. -/
module

public import proofs.«01_k».proof.Proof.Gen.Reference6Ideal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Reference6Ideal.Cmp

open Cert.Reference6Ideal Cert.Reference6Ideal.Read

/-- What one row of a block adds to a hidden unit: the row, its position added, times the row's 64 weights. -/
def tap (x0 : Vec Ideal S8x36x2048x64 .f32) (x1 : Vec Ideal S4x32x64 .f32) (x2 : Vec Ideal S4x2048x256 .f32)
    (b : Fin 8) (h : Fin 36) (n : Fin 128) (j : Fin 256) (k : Fin 32) : EReal :=
  ∑ d : Fin 64, (x0 (ix4 b h (⟨16 * ((n.val + k.val / 16) % 128) + k.val % 16, by omega⟩ : Fin 2048) d) + x1 (ix3 (0 : Fin 4) k d))
    * x2 (ix3 (0 : Fin 4) (⟨64 * k.val + d.val, by omega⟩ : Fin 2048) j)

/-- The gate of a hidden unit. -/
def act (s : EReal) : EReal := s * Ideal.logistic s

/-- A sum of 32 terms is its first sixteen and its last sixteen, each taken in turn. -/
theorem sum_halves (f : Fin 32 → EReal) : ∑ k, f k =
    (f 0 + f 1 + f 2 + f 3 + f 4 + f 5 + f 6 + f 7 + f 8 + f 9 + f 10 + f 11 + f 12 + f 13 + f 14 + f 15)
    + (f 16 + f 17 + f 18 + f 19 + f 20 + f 21 + f 22 + f 23 + f 24 + f 25 + f 26 + f 27 + f 28 + f 29 + f 30 + f 31) := by
  rw [Fin.sum_univ_add (a := 16) (b := 16)]
  simp only [Fin.sum_univ_castSucc, Fin.sum_univ_zero, zero_add]
  rfl

variable (x0 : Vec Ideal S8x36x2048x64 .f32) (x1 : Vec Ideal S4x32x64 .f32) (x2 : Vec Ideal S4x2048x256 .f32)

/-- The keys by strides of sixteen rows. -/
theorem v7_at (b : Fin 8) (g : Fin 2) (n : Fin 128) (p : Fin 16) (d : Fin 64) (h : Fin 36) (q : Fin 2048) (hh : h.val = 8 + g.val)
    (hq : q.val = 16 * n.val + p.val) : val_main_v7 (F := Ideal) x0 (ix5 b g n p d) = x0 (ix4 b h q d) := by
  rw [val_main_v7_apply, val_main_v0_apply]
  refine congrArg x0 (funext fun a => ?_)
  match a with
  | ⟨0, _⟩ => exact Fin.ext (by show ((((b.val * 2 + g.val) * 128 + n.val) * 16 + p.val) * 64 + d.val) / 262144 = b.val; omega)
  | ⟨1, _⟩ => exact Fin.ext (by show 8 + ((((b.val * 2 + g.val) * 128 + n.val) * 16 + p.val) * 64 + d.val) / 131072 % 2 = h.val; omega)
  | ⟨2, _⟩ => exact Fin.ext (by show ((((b.val * 2 + g.val) * 128 + n.val) * 16 + p.val) * 64 + d.val) / 64 % 2048 = q.val; omega)
  | ⟨3, _⟩ => exact Fin.ext (by show ((((b.val * 2 + g.val) * 128 + n.val) * 16 + p.val) * 64 + d.val) % 64 = d.val; omega)

/-- A block is two strides, the second the next block's first. -/
theorem v9_at (b : Fin 8) (g : Fin 2) (n : Fin 128) (k : Fin 32) (d : Fin 64) (h : Fin 36) (q : Fin 2048) (hh : h.val = 8 + g.val)
    (hq : q.val = 16 * ((n.val + k.val / 16) % 128) + k.val % 16) :
    val_main_v9 (F := Ideal) x0 (ix5 b g n k d) = x0 (ix4 b h q d) := by
  have key := v7_at x0 b g
  unfold val_main_v9 val_main_v8 val_main_call0_v0 val_main_call0_v1
  generalize val_main_v7 (F := Ideal) x0 = y at key ⊢
  pointwise []
  split_ifs
  all_goals exact key _ _ d h q hh (by simp only; omega)

/-- The first product. -/
theorem v14_at (b : Fin 8) (g : Fin 2) (n : Fin 128) (j : Fin 256) (h : Fin 36) (hh : h.val = 8 + g.val) :
    val_main_v14 (F := Ideal) x0 x1 x2 (ix4 b g n j) = ∑ k, tap x0 x1 x2 b h n j k := by
  have e1 : val_main_v14 (F := Ideal) x0 x1 x2 (ix4 b g n j)
      = ∑ k : Fin 2048, val_main_v13 (F := Ideal) x0 x1 (ix4 b g n k) * val_main_v4 (F := Ideal) x2 (ix2 k j) := by
    unfold val_main_v14
    generalize val_main_v13 (F := Ideal) x0 x1 = u
    pointwise []
  rw [e1, ← (finProdFinEquiv (m := 32) (n := 64)).sum_comp (fun k : Fin 2048 => val_main_v13 (F := Ideal) x0 x1 (ix4 b g n k) * val_main_v4 (F := Ideal) x2 (ix2 k j)),
    Fintype.sum_prod_type]
  refine Finset.sum_congr rfl fun k _ => Finset.sum_congr rfl fun d _ => ?_
  have hk : (finProdFinEquiv (k, d) : Fin (32 * 64)) = (⟨64 * k.val + d.val, by omega⟩ : Fin 2048) := Fin.ext (by simp [finProdFinEquiv]; ring)
  rw [hk]
  refine congrArg₂ (fun x y : EReal => x * y) ?_ ?_
  · rw [val_main_v13_apply]
    refine Eq.trans (congrArg _ (?_ : _ = ix5 b g n k d)) ?_
    · funext a
      match a with
      | ⟨0, _⟩ => exact Fin.ext (by show (((b.val * 2 + g.val) * 128 + n.val) * 2048 + (64 * k.val + d.val)) / 524288 = b.val; omega)
      | ⟨1, _⟩ => exact Fin.ext (by show (((b.val * 2 + g.val) * 128 + n.val) * 2048 + (64 * k.val + d.val)) / 262144 % 2 = g.val; omega)
      | ⟨2, _⟩ => exact Fin.ext (by show (((b.val * 2 + g.val) * 128 + n.val) * 2048 + (64 * k.val + d.val)) / 2048 % 128 = n.val; omega)
      | ⟨3, _⟩ => exact Fin.ext (by show (((b.val * 2 + g.val) * 128 + n.val) * 2048 + (64 * k.val + d.val)) / 64 % 32 = k.val; omega)
      | ⟨4, _⟩ => exact Fin.ext (by show (((b.val * 2 + g.val) * 128 + n.val) * 2048 + (64 * k.val + d.val)) % 64 = d.val; omega)
    · refine congrArg₂ (fun x y : EReal => x + y) (v9_at x0 b g n k d h _ hh rfl) ?_
      unfold val_main_v11 val_main_v10 val_main_v2 val_main_v1
      pointwise []
  · unfold val_main_v4 val_main_v3
    pointwise []

/-- The hidden units. -/
theorem v15_at (b : Fin 8) (g : Fin 2) (n : Fin 128) (j : Fin 256) (h : Fin 36) (hh : h.val = 8 + g.val) :
    val_main_v15 (F := Ideal) x0 x1 x2 (ix4 b g n j) = act (∑ k, tap x0 x1 x2 b h n j k) := by
  rw [← v14_at x0 x1 x2 b g n j h hh]
  unfold val_main_v15 val_main_call1_v5 val_main_call1_v4 val_main_call1_v3 val_main_call1_v2 val_main_call1_v1 val_main_call1_v0 val_main_call1_cst val_main_call1_cst_0 act
  generalize val_main_v14 (F := Ideal) x0 x1 x2 = u
  pointwise []
  simp only [Ideal.logistic]

/-- The heads, every head the one two after it: the values follow the two heads of the keys. -/
def later (x0 : Vec Ideal S8x36x2048x64 .f32) : Vec Ideal S8x36x2048x64 .f32 := fun i => x0 (ix4 (i 0) (⟨((i 1 : Fin 36).val + 2) % 36, by omega⟩ : Fin 36) (i 2) (i 3))

/-- The values' hidden units are the keys' of the later heads. -/
theorem v32_eq : val_main_v32 (F := Ideal) x0 x1 x2 = val_main_v15 (F := Ideal) (later x0) x1 x2 := by
  have e : val_main_v17 (F := Ideal) x0 = val_main_v0 (F := Ideal) (later x0) := by
    funext i
    obtain ⟨b, g, q, d, rfl⟩ : ∃ (b : Fin 8) (g : Fin 2) (q : Fin 2048) (d : Fin 64), i = ix4 b g q d := ⟨i 0, i 1, i 2, i 3, eq_ix4 i⟩
    unfold val_main_v17 val_main_v0
    pointwise []
    unfold later
    exact congrArg (fun h => x0 (ix4 b h q d)) (Fin.ext (by simp; omega))
  unfold val_main_v32 val_main_call3_v5 val_main_call3_v3 val_main_call3_v1 val_main_call3_v0 val_main_v31 val_main_v30 val_main_v29 val_main_v26 val_main_v25
    val_main_call2_v0 val_main_call2_v1 val_main_v24
  rw [e]
  rfl

/-- So they are the same gated sums, of the values' head. -/
theorem v32_at (b : Fin 8) (g : Fin 2) (n : Fin 128) (j : Fin 256) (h : Fin 36) (hh : h.val = 10 + g.val) :
    val_main_v32 (F := Ideal) x0 x1 x2 (ix4 b g n j) = act (∑ k, tap x0 x1 x2 b h n j k) := by
  rw [v32_eq, v15_at (later x0) x1 x2 b g n j (⟨8 + g.val, by omega⟩ : Fin 36) rfl]
  refine congrArg act (Finset.sum_congr rfl fun k _ => Finset.sum_congr rfl fun d _ => ?_)
  refine congrArg (fun l => (x0 (ix4 b l _ d) + _) * _) (Fin.ext ?_)
  show (8 + g.val + 2) % 36 = h.val
  omega

end Cert.Reference6Ideal.Cmp
end
-- ==== Proof.Compress.lean ====
/- The compression of the attention's keys and values: the kernel's 32 strided products, the last sixteen turned by one row,
   are the reference's one product of the flattened blocks. -/
module

public import proofs.«01_k».proof.Proof.Gen.Kernel6Ideal.Value
public import proofs.«01_k».proof.Proof.CompressRef
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel6Ideal.Cmp

open Cert.Kernel6Ideal Cert.Kernel6Ideal.Gen
open Cert.Reference6Ideal.Cmp (tap act sum_halves v15_at v32_at)

variable (m : (ℓ : Loc nD τ sig) → Buf (Elt Ideal) ℓ)

/-- The block that every window reads or writes at each of the 16 points. -/
theorem idx : ∀ t : Fin cfg0.N, win0_0.index t = ![t.val / 2, 8 + t.val % 2, 0, 0] ∧ win0_1.index t = ![t.val / 2, 10 + t.val % 2, 0, 0]
    ∧ win0_2.index t = ![0, 0, 0] ∧ win0_3.index t = ![0, 0, 0] ∧ win0_4.index t = ![0, 0] ∧ win0_5.index t = ![0, 0]
    ∧ win0_6.index t = ![t.val / 2, t.val % 2, 0, 0] ∧ win0_7.index t = ![t.val / 2, t.val % 2, 0, 0] :=
  (by decide +kernel : ∀ t : Fin grid0.N, _)

/-- A strided load of rows reads every sixteenth row. -/
theorem rd_z (v : Memref sig .tc .vmem S1x1x2048x64 .f32) (hv : v.IsWhole) (x : Vec Ideal S1x1x2048x64 .f32) (o : ℕ)
    (inb) (y : (⟨4, ![1, 1, 128, 64]⟩ : Shape).Idx) (r : Fin 2048) (hr : r.val = o + 16 * (y 2 : ℕ)) :
    View.readAt (Elt Ideal) v.view { off := ![0, 0, o, 0], size := ![1, 1, 128, 64], stride := ![1, 1, 16, 1], inb := inb } (hv.unread x) y
    = x (ix4 (0 : Fin 1) (0 : Fin 1) r (y 3)) := by
  refine (congrFun (hv.read_unread x) _).trans (congrArg x (funext fun a => Fin.ext ?_))
  have h0 : (y 0).val = 0 := Nat.lt_one_iff.mp (y 0).isLt
  have h1 : (y 1).val = 0 := Nat.lt_one_iff.mp (y 1).isLt
  match a with
  | 0 => show 0 + 1 * (y 0 : ℕ) = 0; omega
  | 1 => show 0 + 1 * (y 1 : ℕ) = 0; omega
  | 2 => show o + 16 * (y 2 : ℕ) = r.val; omega
  | 3 => show 0 + 1 * (y 3 : ℕ) = y 3; omega

/-- A load of a row of the positions reads that row. -/
theorem rd_p (v : Memref sig .tc .vmem S2x32x64 .f32) (hv : v.IsWhole) (x : Vec Ideal S2x32x64 .f32) (e o : ℕ)
    (i1) (i2) (hs) (y : (⟨3, ![1, 1, 64]⟩ : Shape).Idx) (a : Fin 2) (r : Fin 32) (ha : a.val = e) (hr : r.val = o) :
    View.readAt (Elt Ideal) v.view ((Rect.unit (s := S2x32x64) ![e, 0, 0] ![1, 32, 64] i1).withinL (Rect.unit (s := S1x32x64) ![0, o, 0] ![1, 1, 64] i2).toLoadRect hs) (hv.unread x) y
    = x (ix3 a r (y 2)) := by
  refine (congrFun (hv.read_unread x) _).trans (congrArg x (funext fun b => Fin.ext ?_))
  have h0 : (y 0).val = 0 := Nat.lt_one_iff.mp (y 0).isLt
  have h1 : (y 1).val = 0 := Nat.lt_one_iff.mp (y 1).isLt
  match b with
  | 0 => show e + 0 + 1 * (y 0 : ℕ) = a.val; omega
  | 1 => show 0 + o + 1 * (y 1 : ℕ) = r.val; omega
  | 2 => show 0 + 0 + 1 * (y 2 : ℕ) = y 2; omega

/-- A load of 64 rows of the weights reads those rows. -/
theorem rd_w (v : Memref sig .tc .vmem S2x2048x256 .bf16) (hv : v.IsWhole) (x : Vec Ideal S2x2048x256 .bf16) (e o : ℕ)
    (i1) (i2) (hs) (y : (⟨3, ![1, 64, 256]⟩ : Shape).Idx) (a : Fin 2) (r : Fin 2048) (ha : a.val = e) (hr : r.val = o + y 1) :
    View.readAt (Elt Ideal) v.view ((Rect.unit (s := S2x2048x256) ![e, 0, 0] ![1, 2048, 256] i1).withinL (Rect.unit (s := S1x2048x256) ![0, o, 0] ![1, 64, 256] i2).toLoadRect hs) (hv.unread x) y
    = x (ix3 a r (y 2)) := by
  refine (congrFun (hv.read_unread x) _).trans (congrArg x (funext fun b => Fin.ext ?_))
  have h0 : (y 0).val = 0 := Nat.lt_one_iff.mp (y 0).isLt
  match b with
  | 0 => show e + 0 + 1 * (y 0 : ℕ) = a.val; omega
  | 1 => show 0 + o + 1 * (y 1 : ℕ) = r.val; omega
  | 2 => show 0 + 0 + 1 * (y 2 : ℕ) = y 2; omega

section
variable (c : Dev nD) (t : Fin cfg0.N)

/-- The two stacked positions, -/
theorem v11 (e : Fin 2) (k : Fin 32) (d : Fin 64) : V m c main_v11 (ix3 e k d)
    = if e.val = 0 then m ((c : Thread nD τ).loc main_arg1) (ix3 (0 : Fin 4) k d) else m ((c : Thread nD τ).loc main_arg4) (ix3 (0 : Fin 4) k d) := by
  unfold V
  after_reads_at
  split_ifs
  all_goals first | omega | skip
  all_goals after_reads_at
  exact (if_neg (by omega)).symm

/-- the two stacked weights, -/
theorem v13 (e : Fin 2) (r : Fin 2048) (j : Fin 256) : V m c main_v13 (ix3 e r j)
    = if e.val = 0 then m ((c : Thread nD τ).loc main_arg2) (ix3 (0 : Fin 4) r j) else m ((c : Thread nD τ).loc main_arg5) (ix3 (0 : Fin 4) r j) := by
  unfold V
  after_reads_at
  split_ifs
  all_goals first | omega | skip
  all_goals after_reads_at
  exact (if_neg (by omega)).symm

/-- the keys' second weights, -/
theorem v15 (j : Fin 256) (d : Fin 64) : V m c main_v15 (ix2 j d) = m ((c : Thread nD τ).loc main_arg3) (ix3 (0 : Fin 4) j d) := by
  unfold V
  after_reads_at

/-- and the values', transposed. -/
theorem v17 (j : Fin 256) (d : Fin 64) : V m c main_v17 (ix2 d j) = m ((c : Thread nD τ).loc main_arg6) (ix3 (0 : Fin 4) j d) := by
  unfold V
  after_reads_at

/-- A block of the keys is a head of them, -/
theorem b0 (r : Fin 2048) (d : Fin 64) (b : Fin 8) (h : Fin 36) (hb : b.val = t.val / 2) (hh : h.val = 8 + t.val % 2) :
    iblk m c 0 t (ix4 (0 : Fin 1) (0 : Fin 1) r d) = m ((c : Thread nD τ).loc main_arg0) (ix4 b h r d) := by
  blk_point [iblk, V, idx t]

/-- and of the values. -/
theorem b1 (r : Fin 2048) (d : Fin 64) (b : Fin 8) (h : Fin 36) (hb : b.val = t.val / 2) (hh : h.val = 10 + t.val % 2) :
    iblk m c 1 t (ix4 (0 : Fin 1) (0 : Fin 1) r d) = m ((c : Thread nD τ).loc main_arg0) (ix4 b h r d) := by
  blk_point [iblk, V, idx t]

/-- The keys' positions, -/
theorem b2k (k : Fin 32) (d : Fin 64) : iblk m c 2 t (ix3 (0 : Fin 2) k d) = m ((c : Thread nD τ).loc main_arg1) (ix3 (0 : Fin 4) k d) := by
  refine Eq.trans ?_ ((v11 m c (0 : Fin 2) k d).trans (if_pos rfl))
  blk_point [iblk, idx t]

/-- the values', -/
theorem b2v (k : Fin 32) (d : Fin 64) : iblk m c 2 t (ix3 (1 : Fin 2) k d) = m ((c : Thread nD τ).loc main_arg4) (ix3 (0 : Fin 4) k d) := by
  refine Eq.trans ?_ ((v11 m c (1 : Fin 2) k d).trans (if_neg (by decide)))
  blk_point [iblk, idx t]

/-- the keys' weights, -/
theorem b3k (r : Fin 2048) (j : Fin 256) : iblk m c 3 t (ix3 (0 : Fin 2) r j) = m ((c : Thread nD τ).loc main_arg2) (ix3 (0 : Fin 4) r j) := by
  refine Eq.trans ?_ ((v13 m c (0 : Fin 2) r j).trans (if_pos rfl))
  blk_point [iblk, idx t]

/-- the values'. -/
theorem b3v (r : Fin 2048) (j : Fin 256) : iblk m c 3 t (ix3 (1 : Fin 2) r j) = m ((c : Thread nD τ).loc main_arg5) (ix3 (0 : Fin 4) r j) := by
  refine Eq.trans ?_ ((v13 m c (1 : Fin 2) r j).trans (if_neg (by decide)))
  blk_point [iblk, idx t]

/-- The keys' second weights, -/
theorem b4 (j : Fin 256) (d : Fin 64) : iblk m c 4 t (ix2 j d) = m ((c : Thread nD τ).loc main_arg3) (ix3 (0 : Fin 4) j d) := by
  refine Eq.trans ?_ (v15 m c j d)
  blk_point [iblk, idx t]

/-- the values', transposed. -/
theorem b5 (j : Fin 256) (d : Fin 64) : iblk m c 5 t (ix2 d j) = m ((c : Thread nD τ).loc main_arg6) (ix3 (0 : Fin 4) j d) := by
  refine Eq.trans ?_ (v17 m c j d)
  blk_point [iblk, idx t]

end

/-- A product of a strided load with its 64 rows of the weights is what one row of every block adds. -/
theorem tap_eq (v1 : Memref sig .tc .vmem S1x1x2048x64 .f32) (h1 : v1.IsWhole) (z : Vec Ideal S1x1x2048x64 .f32)
    (v2 : Memref sig .tc .vmem S2x32x64 .f32) (h2 : v2.IsWhole) (p : Vec Ideal S2x32x64 .f32)
    (v3 : Memref sig .tc .vmem S2x2048x256 .bf16) (h3 : v3.IsWhole) (w : Vec Ideal S2x2048x256 .bf16)
    (x0 : Vec Ideal Cert.Reference6Ideal.S8x36x2048x64 .f32) (x1 : Vec Ideal Cert.Reference6Ideal.S4x32x64 .f32) (x2 : Vec Ideal Cert.Reference6Ideal.S4x2048x256 .f32)
    (b : Fin 8) (h : Fin 36) (e : Fin 2)
    (hz : ∀ r d, z (ix4 (0 : Fin 1) (0 : Fin 1) r d) = x0 (ix4 b h r d)) (hp : ∀ k d, p (ix3 e k d) = x1 (ix3 (0 : Fin 4) k d))
    (hw : ∀ r j, w (ix3 e r j) = x2 (ix3 (0 : Fin 4) r j)) (n : Fin 128) (j : Fin 256) (k : Fin 32)
    (r : Fin 128) (o o2 o3 e2 e3 : ℕ) (i0) (i1) (i2) (hs) (i3) (i4) (hs') (he : e.val = e2) (he' : e.val = e3) (ho2 : k.val = o2) (ho3 : 64 * k.val = o3)
    (hr : 16 * ((n.val + k.val / 16) % 128) + k.val % 16 = o + 16 * r.val) :
    (∑ d : Fin 64, (View.readAt (Elt Ideal) v1.view { off := ![0, 0, o, 0], size := ![1, 1, 128, 64], stride := ![1, 1, 16, 1], inb := i0 } (h1.unread z)
            (ix4 (0 : Fin 1) (0 : Fin 1) r d : (⟨4, ![1, 1, 128, 64]⟩ : Shape).Idx)
          + View.readAt (Elt Ideal) v2.view ((Rect.unit (s := S2x32x64) ![e2, 0, 0] ![1, 32, 64] i1).withinL (Rect.unit (s := S1x32x64) ![0, o2, 0] ![1, 1, 64] i2).toLoadRect hs) (h2.unread p)
            (ix3 (0 : Fin 1) (0 : Fin 1) d : (⟨3, ![1, 1, 64]⟩ : Shape).Idx) : EReal)
        * View.readAt (Elt Ideal) v3.view ((Rect.unit (s := S2x2048x256) ![e3, 0, 0] ![1, 2048, 256] i3).withinL (Rect.unit (s := S1x2048x256) ![0, o3, 0] ![1, 64, 256] i4).toLoadRect hs') (h3.unread w)
            (ix3 (0 : Fin 1) d j : (⟨3, ![1, 64, 256]⟩ : Shape).Idx))
      = tap x0 x1 x2 b h n j k := by
  refine Finset.sum_congr rfl fun d _ => congrArg₂ (fun x y : EReal => x * y) (congrArg₂ (fun x y : EReal => x + y) ?_ ?_) ?_
  · exact (rd_z v1 h1 z o i0 _ (⟨16 * ((n.val + k.val / 16) % 128) + k.val % 16, by omega⟩ : Fin 2048) hr).trans (hz _ d)
  · exact (rd_p v2 h2 p e2 o2 i1 i2 hs _ e k he ho2).trans (hp k d)
  · exact (rd_w v3 h3 w e3 o3 i3 i4 hs' _ e (⟨64 * k.val + d.val, by omega⟩ : Fin 2048) he' (by show 64 * k.val + d.val = o3 + d.val; omega)).trans (hw _ j)

open Cert.Reference6Ideal.Read in
/-- Hidden units that are the reference's end as the reference's compressed keys and their positions. -/
theorem keys (c : Dev nD) (t : Fin cfg0.N) (b : Fin 8) (g : Fin 2) (P : FVec Ideal S128x256 .bf16)
    (hP : ∀ n j, P (ix2 n j) = val_main_v15 (F := Ideal) (m ((c : Thread nD τ).loc main_arg0)) (m ((c : Thread nD τ).loc main_arg1))
      (m ((c : Thread nD τ).loc main_arg2)) (ix4 b g n j)) (y0 y1 : Fin 1) (n : Fin 128) (d : Fin 128) :
    k0_pay1 (k0_pay103 P (iblk m c 4 t)) (ix4 y0 y1 n d) = val_main_v52 (F := Ideal) (m ((c : Thread nD τ).loc main_arg0))
    (m ((c : Thread nD τ).loc main_arg1)) (m ((c : Thread nD τ).loc main_arg2)) (m ((c : Thread nD τ).loc main_arg3)) (ix4 b g n d) := by
  unfold val_main_v52 val_main_v51 val_main_v16 val_main_v6 val_main_v5 val_main_v50 val_main_v49 val_main_v48 val_main_call4_v1 val_main_call4_v0 val_main_cst
    val_main_v47 val_main_v46 val_main_c_3 val_main_v45 val_main_v44 val_main_c_2 val_main_v43 val_main_v42 val_main_v41 val_main_c_1 val_main_v40 val_main_v39
    val_main_v38 val_main_c_0 val_main_v37 val_main_v36 val_main_v35 val_main_c val_main_v34
  generalize val_main_v15 (F := Ideal) (m ((c : Thread nD τ).loc main_arg0)) (m ((c : Thread nD τ).loc main_arg1)) (m ((c : Thread nD τ).loc main_arg2)) = u at hP ⊢
  simp only [id_eq]
  pointwise [k0_pay1, k0_pay103]
  have hs : ∀ x : BitVec 32, IntOp.shrsi .vector x 7#32 = IntOp.shrsi .host x 7#32 := fun _ => rfl
  simp only [hs, hP, b4 m c t]

open Cert.Reference6Ideal.Read in
/-- The compressed keys, their positions in the columns after them. -/
theorem final6 (c : Dev nD) : (dats m 0 c).arrAt 6 (cfgs 0).N = val_main_v52 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  obtain ⟨y0, y1, n, d, rfl⟩ : ∃ (y0 : Fin 1) (y1 : Fin 1) (n : Fin 128) (d : Fin 128), y = ix4 y0 y1 n d := ⟨y 0, y 1, y 2, y 3, eq_ix4 y⟩
  rw [after0_6]
  have ht : t.val < 16 := t.isLt
  have h0 : y0.val = 0 := by omega
  have h1 : y1.val = 0 := by omega
  have hb : ((cfg0.win 6).blk t).view.emb (ix4 y0 y1 n d) = ix4 (⟨t.val / 2, by omega⟩ : Fin 8) (⟨t.val % 2, by omega⟩ : Fin 2) n d := by
    blk_ext [idx t]
  refine Eq.trans ?_ (congrArg _ hb.symm)
  simp only [outsAt0]
  frame_out
  refine keys m c t _ _ _ (fun n j => ?_) y0 y1 n d
  refine Eq.trans ?_ ((v15_at _ _ _ _ _ n j (⟨8 + t.val % 2, by omega⟩ : Fin 36) rfl).trans (congrArg act (sum_halves _))).symm
  pointwise [k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3]
  refine congrArg act (congrArg₂ (fun x y : EReal => x + y) ?_ ?_)
  all_goals iterate 15 refine congrArg₂ (fun x y : EReal => x + y) ?_ (tap_eq _ _ _ _ _ _ _ _ _ _ _ _ _ _ (0 : Fin 2)
    (fun r d => b0 m c t r d _ _ rfl rfl) (b2k m c t) (b3k m c t) n j _ _ _ _ _ _ _ _ _ _ _ _ _ _ rfl rfl rfl rfl (by simp <;> omega))
  all_goals exact (tap_eq _ _ _ _ _ _ _ _ _ _ _ _ _ _ (0 : Fin 2)
    (fun r d => b0 m c t r d _ _ rfl rfl) (b2k m c t) (b3k m c t) n j _ _ _ _ _ _ _ _ _ _ _ _ _ _ rfl rfl rfl rfl (by simp <;> omega))

/-- The values' last product, element by element. -/
theorem pay2_at (p : FVec Ideal S128x256 .bf16) (w : Vec Ideal S64x256 .bf16) (y0 y1 : Fin 1) (d : Fin 64) (n : Fin 128) :
    k0_pay2 p w (ix4 y0 y1 d n) = ∑ j : Fin 256, (w (ix2 d j) * p (ix2 n j) : EReal) := by
  pointwise [k0_pay2]

open Cert.Reference6Ideal.Read in
/-- Hidden units that are the reference's end as the reference's compressed values. -/
theorem vals (c : Dev nD) (t : Fin cfg0.N) (b : Fin 8) (g : Fin 2) (P : FVec Ideal S128x256 .bf16)
    (hP : ∀ n j, P (ix2 n j) = val_main_v32 (F := Ideal) (m ((c : Thread nD τ).loc main_arg0)) (m ((c : Thread nD τ).loc main_arg4))
      (m ((c : Thread nD τ).loc main_arg5)) (ix4 b g n j)) (y0 y1 : Fin 1) (d : Fin 64) (n : Fin 128) :
    k0_pay2 P (iblk m c 5 t) (ix4 y0 y1 d n) = val_main_v54 (F := Ideal) (m ((c : Thread nD τ).loc main_arg0))
    (m ((c : Thread nD τ).loc main_arg4)) (m ((c : Thread nD τ).loc main_arg5)) (m ((c : Thread nD τ).loc main_arg6)) (ix4 b g d n) := by
  unfold val_main_v54 val_main_v53 val_main_v33 val_main_v23 val_main_v22
  generalize val_main_v32 (F := Ideal) (m ((c : Thread nD τ).loc main_arg0)) (m ((c : Thread nD τ).loc main_arg4)) (m ((c : Thread nD τ).loc main_arg5)) = u at hP ⊢
  refine (pay2_at P _ y0 y1 d n).trans ?_
  pointwise []
  refine Finset.sum_congr rfl fun j _ => ?_
  rw [hP n j, b5 m c t j d]
  exact mul_comm (_ : EReal) _

open Cert.Reference6Ideal.Read in
/-- The compressed values, transposed. -/
theorem final7 (c : Dev nD) : (dats m 0 c).arrAt 7 (cfgs 0).N = val_main_v54 (F := Ideal) (m ((c : Thread nD τ).loc main_arg0))
    (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  obtain ⟨y0, y1, d, n, rfl⟩ : ∃ (y0 : Fin 1) (y1 : Fin 1) (d : Fin 64) (n : Fin 128), y = ix4 y0 y1 d n := ⟨y 0, y 1, y 2, y 3, eq_ix4 y⟩
  rw [after0_7]
  have ht : t.val < 16 := t.isLt
  have h0 : y0.val = 0 := by omega
  have h1 : y1.val = 0 := by omega
  have hb : ((cfg0.win 7).blk t).view.emb (ix4 y0 y1 d n) = ix4 (⟨t.val / 2, by omega⟩ : Fin 8) (⟨t.val % 2, by omega⟩ : Fin 2) d n := by
    blk_ext [idx t]
  refine Eq.trans ?_ (congrArg _ hb.symm)
  simp only [outsAt0]
  frame_out
  refine vals m c t _ _ _ (fun n j => ?_) y0 y1 d n
  refine Eq.trans ?_ ((v32_at _ _ _ _ _ n j (⟨10 + t.val % 2, by omega⟩ : Fin 36) rfl).trans (congrArg act (sum_halves _))).symm
  pointwise [k0_pay102, k0_pay101, k0_pay100, k0_pay99, k0_pay98, k0_pay97, k0_pay96, k0_pay95, k0_pay94, k0_pay93, k0_pay92, k0_pay91, k0_pay90, k0_pay89, k0_pay88, k0_pay87, k0_pay86, k0_pay85, k0_pay84, k0_pay83, k0_pay82, k0_pay81, k0_pay80, k0_pay79, k0_pay78, k0_pay77, k0_pay76, k0_pay75, k0_pay74, k0_pay73, k0_pay72, k0_pay71, k0_pay70, k0_pay69, k0_pay68, k0_pay67, k0_pay66, k0_pay65, k0_pay64, k0_pay63, k0_pay62, k0_pay61, k0_pay60, k0_pay59, k0_pay58, k0_pay57, k0_pay56, k0_pay55, k0_pay54]
  refine congrArg act (congrArg₂ (fun x y : EReal => x + y) ?_ ?_)
  all_goals iterate 15 refine congrArg₂ (fun x y : EReal => x + y) ?_ (tap_eq _ _ _ _ _ _ _ _ _ _ _ _ _ _ (1 : Fin 2)
    (fun r d => b1 m c t r d _ _ rfl rfl) (b2v m c t) (b3v m c t) n j _ _ _ _ _ _ _ _ _ _ _ _ _ _ rfl rfl rfl rfl (by simp <;> omega))
  all_goals exact (tap_eq _ _ _ _ _ _ _ _ _ _ _ _ _ _ (1 : Fin 2)
    (fun r d => b1 m c t r d _ _ rfl rfl) (b2v m c t) (b3v m c t) n j _ _ _ _ _ _ _ _ _ _ _ _ _ _ rfl rfl rfl rfl (by simp <;> omega))

end Cert.Kernel6Ideal.Cmp

namespace Cert.Proof

/-- The compression's kernel and its reference end with the same keys and values, their arguments unchanged. -/
theorem compression : Cert.algebraic_Kernel6Ideal_Reference6Ideal (hKernel6Ideal := Cert.Kernel6Ideal.Gen.facts)
    (hReference6Ideal := Cert.Reference6Ideal.Gen.facts) := by
  intro m g m' g' _ hagree
  refine ⟨fun c => (Cert.Kernel6Ideal.Gen.dats m 0 c).arrAt 6 (Cert.Kernel6Ideal.cfgs 0).N,
    fun c => (Cert.Kernel6Ideal.Gen.dats m 0 c).arrAt 7 (Cert.Kernel6Ideal.cfgs 0).N, ?_, ?_⟩
  · exact Cert.Kernel6Ideal.Value.run_blocks m g
  · refine (θ_run Cert.Reference6Ideal.defs _ _).mono (fun r h c => ?_) (Cert.Reference6Ideal.Value.run m' g')
    obtain ⟨h0, h1, harg⟩ := h c
    obtain ⟨a0, a1, a2, a3, a4, a5, a6⟩ := hagree c
    refine ⟨h0.trans ?_, h1.trans ?_, harg⟩
    · rw [Cert.Reference6Ideal.Read.val_main_v52_eq, a0, a1, a2, a3]; exact (Cert.Kernel6Ideal.Cmp.final6 m c).symm
    · rw [Cert.Reference6Ideal.Read.val_main_v54_eq, a0, a4, a5, a6]; exact (Cert.Kernel6Ideal.Cmp.final7 m c).symm

end Cert.Proof

end
-- ==== Proof.lean ====
/- The claims about the calls of the layer, put together: every program's frame, each idealized program being the
   program's own text, and each call equal to the plain mathematics it stands for. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Lru
public import proofs.«01_k».proof.Proof.Ffn
public import proofs.«01_k».proof.Proof.FfnFinal
public import proofs.«01_k».proof.Proof.OutProj
public import proofs.«01_k».proof.Proof.InProj
public import proofs.«01_k».proof.Proof.Compress
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2, Idealize.ShloMosaic.sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, Idealize.ShloMosaic.sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono
    (fun r h => ⟨fun c => (h c).2, Idealize.ShloMosaic.sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2.2.2.2.2.2.2.2, Idealize.ShloMosaic.sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono
    (fun r h => ⟨fun c => (h c).2.2, Idealize.ShloMosaic.sem_eq_zero_of_no_sems (by decide) r.2⟩) (Cert.Reference6Ideal.Value.run m ρ),
  trivial, recurrence, trivial, half_step, trivial, last_half_step, trivial, out_projection, trivial, in_projection, trivial, compression⟩

end Cert.Proof

end
